-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_document [hPre_one_document : Cert.Pre_one_document.Facts] (m : (ℓ : Loc Cert.KernelIdeal.nD Cert.KernelIdeal.τ Cert.KernelIdeal.sig) → Buf (Elt Ideal) ℓ) : Prop :=
  ∀ c : Dev Cert.KernelIdeal.nD,
    (Cert.Pre_one_document.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_document [hPre_one_document : Cert.Pre_one_document.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_document.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_one_document [hKernelIdeal : Cert.KernelIdeal.Facts] [hPre_one_document : Cert.Pre_one_document.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_document m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_one_document [hReferenceIdeal : Cert.ReferenceIdeal.Facts] [hPre_one_document : Cert.Pre_one_document.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_document m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_one_document [hKernelIdeal : Cert.KernelIdeal.Facts] [hReferenceIdeal : Cert.ReferenceIdeal.Facts] [hPre_one_document : Cert.Pre_one_document.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_document m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_one_document : Cert.Pre_one_document.Facts),
    quiescent_Kernel (hKernel := hKernel)
    ∧ quiescent_KernelIdeal (hKernelIdeal := hKernelIdeal)
    ∧ quiescent_KernelIdeal_pre_one_document (hKernelIdeal := hKernelIdeal) (hPre_one_document := hPre_one_document)
    ∧ quiescent_ReferenceIdeal (hReferenceIdeal := hReferenceIdeal)
    ∧ quiescent_ReferenceIdeal_pre_one_document (hReferenceIdeal := hReferenceIdeal) (hPre_one_document := hPre_one_document)
    ∧ preserves_Kernel_KernelIdeal
    ∧ algebraic_KernelIdeal_ReferenceIdeal_pre_one_document (hKernelIdeal := hKernelIdeal) (hReferenceIdeal := hReferenceIdeal) (hPre_one_document := hPre_one_document)
-- ==== Pre_one_document.lean ====
abbrev S1x2048x1024 : Shape := ⟨3, ![1, 2048, 1024]⟩
abbrev S1x2048 : Shape := ⟨2, ![1, 2048]⟩
abbrev S1x16x256x64 : Shape := ⟨4, ![1, 16, 256, 64]⟩
abbrev S1x16x256 : Shape := ⟨3, ![1, 16, 256]⟩
abbrev S1x256 : Shape := ⟨2, ![1, 256]⟩
abbrev S_ : Shape := ⟨0, ![]⟩
abbrev S1024 : Shape := ⟨1, ![1024]⟩
abbrev S1024x1024 : Shape := ⟨2, ![1024, 1024]⟩
abbrev S16x64 : Shape := ⟨2, ![16, 64]⟩
abbrev S16x512x64 : Shape := ⟨3, ![16, 512, 64]⟩
abbrev S1x1 : Shape := ⟨2, ![1, 1]⟩

class Facts : Prop where
  slices_S1x2048_S1x1_0_0 : S1x2048.Slices ![0, 0] S1x1
  shapeCasts_S1x1_S_ : S1x1.ShapeCasts S_
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S16x64 : S_.BroadcastsInDim S16x64 (![] : Fin 0 → Fin S16x64.rank)
  reducesTo_S16x64_S_d0_1 : S16x64.ReducesTo [0, 1] S_
  bcast_S_S1x16x256x64 : S_.BroadcastsInDim S1x16x256x64 (![] : Fin 0 → Fin S1x16x256x64.rank)
  reducesTo_S1x16x256x64_S_d0_1_2_3 : S1x16x256x64.ReducesTo [0, 1, 2, 3] S_
  bcast_S_S16x512x64 : S_.BroadcastsInDim S16x512x64 (![] : Fin 0 → Fin S16x512x64.rank)
  reducesTo_S16x512x64_S_d0_1_2 : S16x512x64.ReducesTo [0, 1, 2] S_

variable [Facts]

def fn_part3 {F : FTy → Type} [FloatOps F] (main_v10 : IVec S_ 1) (main_v13 : IVec S_ 1) (main_v47 : IVec S_ 1) (main_v51 : IVec S_ 1) : IVec S_ 1 :=
  let main_v52 : IVec S_ 1 := andi main_v47 main_v51
  let main_v53 : IVec S_ 1 := andi main_v10 main_v13
  let main_v54 : IVec S_ 1 := andi main_v53 main_v52
  main_v54

def fn_part2 {F : FTy → Type} [FloatOps F] (main_arg3 : FVec F S1x16x256x64 .f32) (main_arg15 : FVec F S16x64 .f32) (main_arg16 : FVec F S16x512x64 .f32) (main_v10 : IVec S_ 1) (main_v13 : IVec S_ 1) (main_v32 : IVec S_ 1) (main_v33 : FVec F S1024x1024 .f32) (main_v34 : FVec F S1024x1024 .f32) : IVec S_ 1 :=
  let main_v35 : IVec S1024x1024 1 := cmpf .olt main_v33 main_v34
  let main_c_11 : IVec S_ 1 := constantI S_ 1 1#1
  let main_v36 : IVec S_ 1 := (fun x v => Host.reduce IntOp.andi x v reducesTo_S1024x1024_S_d0_1 h_S_) main_v35 main_c_11
  let main_v37 : IVec S_ 1 := andi main_v32 main_v36
  let main_v38 : FVec F S16x64 .f32 := Host.absf main_arg15
  let main_cst_12 : FVec F S_ .f32 := constant S_ .f32 0x7F800000#32
  let main_v39 : FVec F S16x64 .f32 := broadcastInDim S16x64 ![] bcast_S_S16x64 main_cst_12
  let main_v40 : IVec S16x64 1 := cmpf .olt main_v38 main_v39
  let main_c_13 : IVec S_ 1 := constantI S_ 1 1#1
  let main_v41 : IVec S_ 1 := (fun x v => Host.reduce IntOp.andi x v reducesTo_S16x64_S_d0_1 h_S_) main_v40 main_c_13
  let main_v42 : IVec S_ 1 := andi main_v37 main_v41
  let main_v43 : FVec F S1x16x256x64 .f32 := Host.absf main_arg3
  let main_cst_14 : FVec F S_ .f32 := constant S_ .f32 0x7F800000#32
  let main_v44 : FVec F S1x16x256x64 .f32 := broadcastInDim S1x16x256x64 ![] bcast_S_S1x16x256x64 main_cst_14
  let main_v45 : IVec S1x16x256x64 1 := cmpf .olt main_v43 main_v44
  let main_c_15 : IVec S_ 1 := constantI S_ 1 1#1
  let main_v46 : IVec S_ 1 := (fun x v => Host.reduce IntOp.andi x v reducesTo_S1x16x256x64_S_d0_1_2_3 h_S_) main_v45 main_c_15
  let main_v47 : IVec S_ 1 := andi main_v42 main_v46
  let main_v48 : FVec F S16x512x64 .f32 := Host.absf main_arg16
  let main_cst_16 : FVec F S_ .f32 := constant S_ .f32 0x7F800000#32
  let main_v49 : FVec F S16x512x64 .f32 := broadcastInDim S16x512x64 ![] bcast_S_S16x512x64 main_cst_16
  let main_v50 : IVec S16x512x64 1 := cmpf .olt main_v48 main_v49
  let main_c_17 : IVec S_ 1 := constantI S_ 1 1#1
  let main_v51 : IVec S_ 1 := (fun x v => Host.reduce IntOp.andi x v reducesTo_S16x512x64_S_d0_1_2 h_S_) main_v50 main_c_17
  fn_part3 (F := F) main_v10 main_v13 main_v47 main_v51

def fn_part1 {F : FTy → Type} [FloatOps F] (main_arg3 : FVec F S1x16x256x64 .f32) (main_arg8 : FVec F S1024 .f32) (main_arg9 : FVec F S1024 .f32) (main_arg10 : FVec F S1024x1024 .f32) (main_arg11 : FVec F S1024x1024 .f32) (main_arg15 : FVec F S16x64 .f32) (main_arg16 : FVec F S16x512x64 .f32) (main_v10 : IVec S_ 1) (main_v13 : IVec S_ 1) (main_v17 : IVec S_ 1) : IVec S_ 1 :=
  let main_v18 : FVec F S1024 .f32 := Host.absf main_arg8
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_c_5 : IVec S_ 1 := constantI S_ 1 1#1
  let main_v21 : IVec S_ 1 := (fun x v => Host.reduce IntOp.andi x v reducesTo_S1024_S_d0 h_S_) main_v20 main_c_5
  let main_v22 : IVec S_ 1 := andi main_v17 main_v21
  let main_v23 : FVec F S1024 .f32 := Host.absf main_arg9
  let main_cst_6 : FVec F S_ .f32 := constant S_ .f32 0x7F800000#32
  let main_v24 : FVec F S1024 .f32 := broadcastInDim S1024 ![] bcast_S_S1024 main_cst_6
  let main_v25 : IVec S1024 1 := cmpf .olt main_v23 main_v24
  let main_c_7 : IVec S_ 1 := constantI S_ 1 1#1
  let main_v26 : IVec S_ 1 := (fun x v => Host.reduce IntOp.andi x v reducesTo_S1024_S_d0 h_S_) main_v25 main_c_7
  let main_v27 : IVec S_ 1 := andi main_v22 main_v26
  let main_v28 : FVec F S1024x1024 .f32 := Host.absf main_arg10
  let main_cst_8 : FVec F S_ .f32 := constant S_ .f32 0x7F800000#32
  let main_v29 : FVec F S1024x1024 .f32 := broadcastInDim S1024x1024 ![] bcast_S_S1024x1024 main_cst_8
  let main_v30 : IVec S1024x1024 1 := cmpf .olt main_v28 main_v29
  let main_c_9 : IVec S_ 1 := constantI S_ 1 1#1
  let main_v31 : IVec S_ 1 := (fun x v => Host.reduce IntOp.andi x v reducesTo_S1024x1024_S_d0_1 h_S_) main_v30 main_c_9
  let main_v32 : IVec S_ 1 := andi main_v27 main_v31
  let main_v33 : FVec F S1024x1024 .f32 := Host.absf main_arg11
  let main_cst_10 : FVec F S_ .f32 := constant S_ .f32 0x7F800000#32
  let main_v34 : FVec F S1024x1024 .f32 := broadcastInDim S1024x1024 ![] bcast_S_S1024x1024 main_cst_10
  fn_part2 (F := F) main_arg3 main_arg15 main_arg16 main_v10 main_v13 main_v32 main_v33 main_v34

def fn {F : FTy → Type} [FloatOps F] (main_arg0 : FVec F S1x2048x1024 .f32) (main_arg1 : IVec S1x2048 32) (main_arg2 : FVec F S1x2048 .f32) (main_arg3 : FVec F S1x16x256x64 .f32) (main_arg4 : FVec F S1x16x256x64 .f32) (main_arg5 : IVec S1x16x256 32) (main_arg6 : IVec S1x256 32) (main_arg7 : IVec S_ 32) (main_arg8 : FVec F S1024 .f32) (main_arg9 : FVec F S1024 .f32) (main_arg10 : FVec F S1024x1024 .f32) (main_arg11 : FVec F S1024x1024 .f32) (main_arg12 : FVec F S1024x1024 .f32) (main_arg13 : FVec F S1024x1024 .f32) (main_arg14 : FVec F S1024x1024 .f32) (main_arg15 : FVec F S16x64 .f32) (main_arg16 : FVec F S16x512x64 .f32) : IVec S_ 1 :=
  let main_v0 : IVec S1x1 32 := (extractStridedSlice S1x1 ![0, 0] · slices_S1x2048_S1x1_0_0) main_arg1
  let main_v1 : IVec S_ 32 := shapeCast S_ main_v0 shapeCasts_S1x1_S_
  let main_v2 : IVec S1x2048 32 := broadcastInDim S1x2048 ![] bcast_S_S1x2048 main_v1
  let main_v3 : IVec S1x2048 1 := cmpi .eq main_arg1 main_v2
  let main_c : IVec S_ 1 := constantI S_ 1 1#1
  let main_v4 : IVec S_ 1 := (fun x v => Host.reduce IntOp.andi x v reducesTo_S1x2048_S_d0_1 h_S_) main_v3 main_c
  let main_v5 : IVec S1x1 32 := (extractStridedSlice S1x1 ![0, 0] · slices_S1x2048_S1x1_0_0) main_arg1
  let main_v6 : IVec S_ 32 := shapeCast S_ main_v5 shapeCasts_S1x1_S_
  let main_v7 : IVec S1x256 32 := broadcastInDim S1x256 ![] bcast_S_S1x256 main_v6
  let main_v8 : IVec S1x256 1 := cmpi .eq main_arg6 main_v7
  let main_c_0 : IVec S_ 1 := constantI S_ 1 1#1
  let main_v9 : IVec S_ 1 := (fun x v => Host.reduce IntOp.andi x v reducesTo_S1x256_S_d0_1 h_S_) main_v8 main_c_0
  let main_v10 : IVec S_ 1 := andi main_v4 main_v9
  let main_c_1 : IVec S_ 32 := constantI S_ 32 0#32
  let main_v11 : IVec S_ 1 := cmpi .sge main_arg7 main_c_1
  let main_c_2 : IVec S_ 32 := constantI S_ 32 1073741824#32
  let main_v12 : IVec S_ 1 := cmpi .sle main_arg7 main_c_2
  let main_v13 : IVec S_ 1 := andi main_v11 main_v12
  let main_v14 : FVec F S1x2048x1024 .f32 := Host.absf main_arg0
  let main_cst : FVec F S_ .f32 := constant S_ .f32 0x7F800000#32
  let main_v15 : FVec F S1x2048x1024 .f32 := broadcastInDim S1x2048x1024 ![] bcast_S_S1x2048x1024 main_cst
  let main_v16 : IVec S1x2048x1024 1 := cmpf .olt main_v14 main_v15
  let main_c_3 : IVec S_ 1 := constantI S_ 1 1#1
  let main_v17 : IVec S_ 1 := (fun x v => Host.reduce IntOp.andi x v reducesTo_S1x2048x1024_S_d0_1_2 h_S_) main_v16 main_c_3
  fn_part1 (F := F) main_arg3 main_arg8 main_arg9 main_arg10 main_arg11 main_arg15 main_arg16 main_v10 main_v13 main_v17
-- ==== Kernel.lean ====
abbrev S1x2048x1024 : Shape := ⟨3, ![1, 2048, 1024]⟩
abbrev S1x2048 : Shape := ⟨2, ![1, 2048]⟩
abbrev S1x16x256x64 : Shape := ⟨4, ![1, 16, 256, 64]⟩
abbrev S1x16x256 : Shape := ⟨3, ![1, 16, 256]⟩
abbrev S1x256 : Shape := ⟨2, ![1, 256]⟩
abbrev S_ : Shape := ⟨0, ![]⟩
abbrev S1024 : Shape := ⟨1, ![1024]⟩
abbrev S1024x1024 : Shape := ⟨2, ![1024, 1024]⟩
abbrev S16x64 : Shape := ⟨2, ![16, 64]⟩
abbrev S16x512x64 : Shape := ⟨3, ![16, 512, 64]⟩
abbrev S2048x1024 : Shape := ⟨2, ![2048, 1024]⟩
abbrev S1024x4096 : Shape := ⟨2, ![1024, 4096]⟩
abbrev S1x1024 : Shape := ⟨2, ![1, 1024]⟩
abbrev S4096x2048 : Shape := ⟨2, ![4096, 2048]⟩
abbrev S256x1024 : Shape := ⟨2, ![256, 1024]⟩
abbrev S4096x256 : Shape := ⟨2, ![4096, 256]⟩
abbrev S256 : Shape := ⟨1, ![256]⟩
abbrev S256x1 : Shape := ⟨2, ![256, 1]⟩
abbrev S1024x256 : Shape := ⟨2, ![1024, 256]⟩
abbrev S3072x256 : Shape := ⟨2, ![3072, 256]⟩
abbrev S16x64x2048 : Shape := ⟨3, ![16, 64, 2048]⟩
abbrev S1x1 : Shape := ⟨2, ![1, 1]⟩
abbrev S64x2048 : Shape := ⟨2, ![64, 2048]⟩
abbrev S1x512x64 : Shape := ⟨3, ![1, 512, 64]⟩
abbrev S1x64x2048 : Shape := ⟨3, ![1, 64, 2048]⟩
abbrev S2048 : Shape := ⟨1, ![2048]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S16x64x1 : Shape := ⟨3, ![16, 64, 1]⟩
abbrev S1024x1 : Shape := ⟨2, ![1024, 1]⟩
abbrev S16x64x1024 : Shape := ⟨3, ![16, 64, 1024]⟩
abbrev S64x1024 : Shape := ⟨2, ![64, 1024]⟩
abbrev S1x64x1 : Shape := ⟨3, ![1, 64, 1]⟩
abbrev S1x1x256x64 : Shape := ⟨4, ![1, 1, 256, 64]⟩
abbrev S1x64x1024 : Shape := ⟨3, ![1, 64, 1024]⟩
abbrev S64x1 : Shape := ⟨2, ![64, 1]⟩
abbrev S256x64 : Shape := ⟨2, ![256, 64]⟩
abbrev S2048x1 : Shape := ⟨2, ![2048, 1]⟩
abbrev S16x64x256 : Shape := ⟨3, ![16, 64, 256]⟩
abbrev S1x64x256 : Shape := ⟨3, ![1, 64, 256]⟩
abbrev S64x256 : Shape := ⟨2, ![64, 256]⟩

abbrev nBuf : Space → Nat
  | .hbm => 70
  | .vmem => 54
  | .smem => 0
  | _ => 0

abbrev bufTy : (tb : Table) → Fin (tcTables nBuf tb) → BufTy
  | .hbm, ⟨0, _⟩ => ⟨S1x2048x1024, .f32⟩
  | .hbm, ⟨1, _⟩ => ⟨S1x2048, .i32⟩
  | .hbm, ⟨2, _⟩ => ⟨S1x2048, .f32⟩
  | .hbm, ⟨3, _⟩ => ⟨S1x16x256x64, .f32⟩
  | .hbm, ⟨4, _⟩ => ⟨S1x16x256x64, .f32⟩
  | .hbm, ⟨5, _⟩ => ⟨S1x16x256, .i32⟩
  | .hbm, ⟨6, _⟩ => ⟨S1x256, .i32⟩
  | .hbm, ⟨7, _⟩ => ⟨S_, .i32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S16x64, .f32⟩
  | .hbm, ⟨16, _⟩ => ⟨S16x512x64, .f32⟩
  | .hbm, ⟨17, _⟩ => ⟨S2048x1024, .f32⟩
  | .hbm, ⟨18, _⟩ => ⟨S1024x4096, .f32⟩
  | .hbm, ⟨19, _⟩ => ⟨S1x1024, .f32⟩
  | .hbm, ⟨20, _⟩ => ⟨S1x1024, .f32⟩
  | .hbm, ⟨21, _⟩ => ⟨S4096x2048, .f32⟩
  | .hbm, ⟨22, _⟩ => ⟨S16x64x2048, .f32⟩
  | .hbm, ⟨23, _⟩ => ⟨S1x1, .f32⟩
  | .hbm, ⟨24, _⟩ => ⟨S16x64x1, .f32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S1024x1, .i32⟩
  | .hbm, ⟨29, _⟩ => ⟨S1x1024, .i32⟩
  | .hbm, ⟨30, _⟩ => ⟨S_, .i32⟩
  | .hbm, ⟨31, _⟩ => ⟨S1x1024, .i32⟩
  | .hbm, ⟨32, _⟩ => ⟨S1x1024, .i32⟩
  | .hbm, ⟨33, _⟩ => ⟨S1024x1024, .i32⟩
  | .hbm, ⟨34, _⟩ => ⟨S1024x1024, .i32⟩
  | .hbm, ⟨35, _⟩ => ⟨S1024x1024, .i1⟩
  | .hbm, ⟨36, _⟩ => ⟨S_, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S16x64x1024, .f32⟩
  | .hbm, ⟨43, _⟩ => ⟨S2048, .i32⟩
  | .hbm, ⟨44, _⟩ => ⟨S2048x1, .i32⟩
  | .hbm, ⟨45, _⟩ => ⟨S1x1024, .i32⟩
  | .hbm, ⟨46, _⟩ => ⟨S_, .i32⟩
  | .hbm, ⟨47, _⟩ => ⟨S1x1024, .i32⟩
  | .hbm, ⟨48, _⟩ => ⟨S1x1024, .i32⟩
  | .hbm, ⟨49, _⟩ => ⟨S2048x1024, .i32⟩
  | .hbm, ⟨50, _⟩ => ⟨S2048x1024, .i32⟩
  | .hbm, ⟨51, _⟩ => ⟨S2048x1024, .i1⟩
  | .hbm, ⟨52, _⟩ => ⟨S_, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S16x64x1024, .f32⟩
  | .hbm, ⟨59, _⟩ => ⟨S16x64x2048, .f32⟩
  | .hbm, ⟨60, _⟩ => ⟨S2048x1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .f32⟩
  | .local _ .vmem, ⟨5, _⟩ => ⟨S4096x256, .f32⟩
  | .local _ .vmem, ⟨6, _⟩ => ⟨S4096x256, .f32⟩
  | .local _ .vmem, ⟨7, _⟩ => ⟨S64x2048, .f32⟩
  | .local _ .vmem, ⟨8, _⟩ => ⟨S64x2048, .f32⟩
  | .local _ .vmem, ⟨9, _⟩ => ⟨S1x512x64, .f32⟩
  | .local _ .vmem, ⟨10, _⟩ => ⟨S1x512x64, .f32⟩
  | .local _ .vmem, ⟨11, _⟩ => ⟨S1x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x1, .f32⟩
  | .local _ .vmem, ⟨15, _⟩ => ⟨S1024x1024, .f32⟩
  | .local _ .vmem, ⟨16, _⟩ => ⟨S64x1024, .f32⟩
  | .local _ .vmem, ⟨17, _⟩ => ⟨S64x1024, .f32⟩
  | .local _ .vmem, ⟨18, _⟩ => ⟨S1x64x1, .f32⟩
  | .local _ .vmem, ⟨19, _⟩ => ⟨S1x64x1, .f32⟩
  | .local _ .vmem, ⟨20, _⟩ => ⟨S1x1x256x64, .f32⟩
  | .local _ .vmem, ⟨21, _⟩ => ⟨S1x1x256x64, .f32⟩
  | .local _ .vmem, ⟨22, _⟩ => ⟨S1x1x256x64, .f32⟩
  | .local _ .vmem, ⟨23, _⟩ => ⟨S1x1x256x64, .f32⟩
  | .local _ .vmem, ⟨24, _⟩ => ⟨S1x64x1024, .f32⟩
  | .local _ .vmem, ⟨25, _⟩ => ⟨S1x64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S1x64x1024, .f32⟩
  | .local _ .vmem, ⟨31, _⟩ => ⟨S1x64x1024, .f32⟩
  | .local _ .vmem, ⟨32, _⟩ => ⟨S2048x1024, .f32⟩
  | .local _ .vmem, ⟨33, _⟩ => ⟨S64x1024, .f32⟩
  | .local _ .vmem, ⟨34, _⟩ => ⟨S64x1024, .f32⟩
  | .local _ .vmem, ⟨35, _⟩ => ⟨S1x64x1, .f32⟩
  | .local _ .vmem, ⟨36, _⟩ => ⟨S1x64x1, .f32⟩
  | .local _ .vmem, ⟨37, _⟩ => ⟨S1x1x256x64, .f32⟩
  | .local _ .vmem, ⟨38, _⟩ => ⟨S1x1x256x64, .f32⟩
  | .local _ .vmem, ⟨39, _⟩ => ⟨S1x1x256x64, .f32⟩
  | .local _ .vmem, ⟨40, _⟩ => ⟨S1x1x256x64, .f32⟩
  | .local _ .vmem, ⟨41, _⟩ => ⟨S1x64x2048, .f32⟩
  | .local _ .vmem, ⟨42, _⟩ => ⟨S1x64x2048, .f32⟩
  | .local _ .vmem, ⟨43, _⟩ => ⟨S64x2048, .f32⟩
  | .local _ .vmem, ⟨44, _⟩ => ⟨S64x2048, .f32⟩
  | .local _ .vmem, ⟨45, _⟩ => ⟨S64x1024, .f32⟩
  | .local _ .vmem, ⟨46, _⟩ => ⟨S64x1024, .f32⟩
  | .local _ .vmem, ⟨47, _⟩ => ⟨S1x64x1024, .f32⟩
  | .local _ .vmem, ⟨48, _⟩ => ⟨S1x64x1024, .f32⟩
  | .local _ .vmem, ⟨49, _⟩ => ⟨S16x64x256, .f32⟩
  | .local _ .vmem, ⟨50, _⟩ => ⟨S16x64x256, .f32⟩
  | .local _ .vmem, ⟨51, _⟩ => ⟨S1024x1024, .f32⟩
  | .local _ .vmem, ⟨52, _⟩ => ⟨S256x1024, .f32⟩
  | .local _ .vmem, ⟨53, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_cst_3 : Ref sig .tc := ⟨.hbm, 53, rfl⟩
abbrev main_call1_v0 : Ref sig .tc := ⟨.hbm, 54, rfl⟩
abbrev main_call1_v1 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_v33 : Ref sig .tc := ⟨.hbm, 62, rfl⟩
abbrev main_cst_5 : Ref sig .tc := ⟨.hbm, 63, rfl⟩
abbrev main_v34 : Ref sig .tc := ⟨.hbm, 64, rfl⟩
abbrev main_cst_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc3_stg5_0 : Ref sig .tc := ⟨.vmem, 41, rfl⟩
abbrev cc3_stg5_1 : Ref sig .tc := ⟨.vmem, 42, rfl⟩
abbrev cc3_stg6_0 : Ref sig .tc := ⟨.vmem, 43, rfl⟩
abbrev cc3_stg6_1 : Ref sig .tc := ⟨.vmem, 44, rfl⟩
abbrev cc3_stg7_0 : Ref sig .tc := ⟨.vmem, 45, rfl⟩
abbrev cc3_stg7_1 : Ref sig .tc := ⟨.vmem, 46, rfl⟩
abbrev cc3_stg8_0 : Ref sig .tc := ⟨.vmem, 47, rfl⟩
abbrev cc3_stg8_1 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg2_0 : Ref sig .tc := ⟨.vmem, 52, rfl⟩
abbrev cc4_stg2_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc2_sem8_0 : DmaSem sig := 30
abbrev cc2_sem8_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc3_sem5_0 : DmaSem sig := 41
abbrev cc3_sem5_1 : DmaSem sig := 42
abbrev cc3_sem6_0 : DmaSem sig := 43
abbrev cc3_sem6_1 : DmaSem sig := 44
abbrev cc3_sem7_0 : DmaSem sig := 45
abbrev cc3_sem7_1 : DmaSem sig := 46
abbrev cc3_sem8_0 : DmaSem sig := 47
abbrev cc3_sem8_1 : DmaSem sig := 48
abbrev cc4_sem0_0 : DmaSem sig := 49
abbrev cc4_sem0_1 : DmaSem sig := 50
abbrev cc4_sem1_0 : DmaSem sig := 51
abbrev cc4_sem2_0 : DmaSem sig := 52
abbrev cc4_sem2_1 : DmaSem sig := 53

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc2_transform_7 (i : grid2.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S1024x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x64x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x256x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x256x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x64x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S64x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S64x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x64x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c1_i32 : BitVec 32 := 1#32
  let c0_i32 : BitVec 32 := 0#32
  ![arg0.toNat, c1_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_4 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc3_transform_7 (i : grid3.Coords) : Fin 2 → Nat :=
  let arg0 : BitVec 32 := BitVec.ofNat 32 (i 0).val
  let c48_i32 : BitVec 32 := 48#32
  let v0 : BitVec 32 := Scalar.addi c48_i32 arg0
  let c1_i32 : BitVec 32 := 1#32
  let c0_i32 : BitVec 32 := 0#32
  ![v0.toNat, c1_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .vmem S2048x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S64x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x64x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x256x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x256x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x64x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S64x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S64x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x64x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16x64x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1x2048 : Shape := ⟨2, ![1, 2048]⟩
abbrev S1x16x256x64 : Shape := ⟨4, ![1, 16, 256, 64]⟩
abbrev S1x16x256 : Shape := ⟨3, ![1, 16, 256]⟩
abbrev S1x256 : Shape := ⟨2, ![1, 256]⟩
abbrev S_ : Shape := ⟨0, ![]⟩
abbrev S1024 : Shape := ⟨1, ![1024]⟩
abbrev S1024x1024 : Shape := ⟨2, ![1024, 1024]⟩
abbrev S16x64 : Shape := ⟨2, ![16, 64]⟩
abbrev S16x512x64 : Shape := ⟨3, ![16, 512, 64]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x16x2048 : Shape := ⟨3, ![1, 16, 2048]⟩
abbrev S1x16x2048x1 : Shape := ⟨4, ![1, 16, 2048, 1]⟩
abbrev S16x512x1x2048 : Shape := ⟨4, ![16, 512, 1, 2048]⟩
abbrev S1x16x2048x512 : Shape := ⟨4, ![1, 16, 2048, 512]⟩
abbrev S16x512 : Shape := ⟨2, ![16, 512]⟩
abbrev S1x16x1x512 : Shape := ⟨4, ![1, 16, 1, 512]⟩
abbrev S16 : Shape := ⟨1, ![16]⟩
abbrev S1x16x1 : Shape := ⟨3, ![1, 16, 1]⟩
abbrev S1x16x2048x2 : Shape := ⟨4, ![1, 16, 2048, 2]⟩
abbrev S1x1x2048x1 : Shape := ⟨4, ![1, 1, 2048, 1]⟩
abbrev S1x16x2304x64 : Shape := ⟨4, ![1, 16, 2304, 64]⟩
abbrev S2048 : Shape := ⟨1, ![2048]⟩
abbrev S256 : Shape := ⟨1, ![256]⟩
abbrev S2304 : Shape := ⟨1, ![2304]⟩
abbrev S1x2304 : Shape := ⟨2, ![1, 2304]⟩
abbrev S2048x1 : Shape := ⟨2, ![2048, 1]⟩
abbrev S2048x2304 : Shape := ⟨2, ![2048, 2304]⟩
abbrev S1x1x2304 : Shape := ⟨3, ![1, 1, 2304]⟩
abbrev S1x2048x2304 : Shape := ⟨3, ![1, 2048, 2304]⟩
abbrev S1x16x1x64 : Shape := ⟨4, ![1, 16, 1, 64]⟩
abbrev S1x16x2048x2304 : Shape := ⟨4, ![1, 16, 2048, 2304]⟩
abbrev S1x1x2048x2304 : Shape := ⟨4, ![1, 1, 2048, 2304]⟩

abbrev nBuf : Space → Nat
  | .hbm => 235
  | .vmem => 0
  | .smem => 0
  | _ => 0

abbrev hbmTy0_0 (i : Nat) : BufTy := match i % 128 with
  | 0 => ⟨S1x2048x1024, .f32⟩
  | 1 => ⟨S1x2048, .i32⟩
  | 2 => ⟨S1x2048, .f32⟩
  | 3 => ⟨S1x16x256x64, .f32⟩
  | 4 => ⟨S1x16x256x64, .f32⟩
  | 5 => ⟨S1x16x256, .i32⟩
  | 6 => ⟨S1x256, .i32⟩
  | 7 => ⟨S_, .i32⟩
  | 8 => ⟨S1024, .f32⟩
  | 9 => ⟨S1024, .f32⟩
  | 10 => ⟨S1024x1024, .f32⟩
  | 11 => ⟨S1024x1024, .f32⟩
  | 12 => ⟨S1024x1024, .f32⟩
  | 13 => ⟨S1024x1024, .f32⟩
  | 14 => ⟨S1024x1024, .f32⟩
  | 15 => ⟨S16x64, .f32⟩
  | 16 => ⟨S16x512x64, .f32⟩
  | 17 => ⟨S_, .f32⟩
  | 18 => ⟨S1x2048, .f32⟩
  | 19 => ⟨S1x2048x1, .f32⟩
  | 20 => ⟨S_, .f32⟩
  | 21 => ⟨S1x2048x1, .f32⟩
  | 22 => ⟨S1x2048x1, .f32⟩
  | 23 => ⟨S1x2048x1024, .f32⟩
  | 24 => ⟨S1x2048x1024, .f32⟩
  | 25 => ⟨S1x2048x1024, .f32⟩
  | 26 => ⟨S_, .f32⟩
  | 27 => ⟨S1x2048, .f32⟩
  | 28 => ⟨S1x2048x1, .f32⟩
  | 29 => ⟨S_, .f32⟩
  | 30 => ⟨S1x2048x1, .f32⟩
  | 31 => ⟨S1x2048x1, .f32⟩
  | 32 => ⟨S1x2048x1024, .f32⟩
  | 33 => ⟨S1x2048x1024, .f32⟩
  | 34 => ⟨S_, .f32⟩
  | 35 => ⟨S1x2048x1, .f32⟩
  | 36 => ⟨S1x2048x1, .f32⟩
  | 37 => ⟨S1x2048x1, .f32⟩
  | 38 => ⟨S1x2048x1024, .f32⟩
  | 39 => ⟨S1x2048x1024, .f32⟩
  | 40 => ⟨S1x1x1024, .f32⟩
  | 41 => ⟨S1x2048x1024, .f32⟩
  | 42 => ⟨S1x2048x1024, .f32⟩
  | 43 => ⟨S1x1x1024, .f32⟩
  | 44 => ⟨S1x2048x1024, .f32⟩
  | 45 => ⟨S1x2048x1024, .f32⟩
  | 46 => ⟨S1x2048x1024, .f32⟩
  | 47 => ⟨S1x2048x16x64, .f32⟩
  | 48 => ⟨S1x16x2048x64, .f32⟩
  | 49 => ⟨S_, .f32⟩
  | 50 => ⟨S1x16x2048, .f32⟩
  | 51 => ⟨S1x16x2048x1, .f32⟩
  | 52 => ⟨S_, .f32⟩
  | 53 => ⟨S1x16x2048x1, .f32⟩
  | 54 => ⟨S1x16x2048x1, .f32⟩
  | 55 => ⟨S1x16x2048x64, .f32⟩
  | 56 => ⟨S1x16x2048x64, .f32⟩
  | 57 => ⟨S1x16x2048x64, .f32⟩
  | 58 => ⟨S_, .f32⟩
  | 59 => ⟨S1x16x2048, .f32⟩
  | 60 => ⟨S1x16x2048x1, .f32⟩
  | 61 => ⟨S_, .f32⟩
  | 62 => ⟨S1x16x2048x1, .f32⟩
  | 63 => ⟨S1x16x2048x1, .f32⟩
  | 64 => ⟨S1x16x2048x64, .f32⟩
  | 65 => ⟨S1x16x2048x64, .f32⟩
  | 66 => ⟨S_, .f32⟩
  | 67 => ⟨S1x16x2048x1, .f32⟩
  | 68 => ⟨S1x16x2048x1, .f32⟩
  | 69 => ⟨S1x16x2048x1, .f32⟩
  | 70 => ⟨S1x16x2048x64, .f32⟩
  | 71 => ⟨S1x16x2048x64, .f32⟩
  | 72 => ⟨S1x2048x1024, .f32⟩
  | 73 => ⟨S1x2048x16x64, .f32⟩
  | 74 => ⟨S1x16x2048x64, .f32⟩
  | 75 => ⟨S_, .f32⟩
  | 76 => ⟨S1x16x2048, .f32⟩
  | 77 => ⟨S1x16x2048x1, .f32⟩
  | 78 => ⟨S_, .f32⟩
  | 79 => ⟨S1x16x2048x1, .f32⟩
  | 80 => ⟨S1x16x2048x1, .f32⟩
  | 81 => ⟨S1x16x2048x64, .f32⟩
  | 82 => ⟨S1x16x2048x64, .f32⟩
  | 83 => ⟨S1x16x2048x64, .f32⟩
  | 84 => ⟨S_, .f32⟩
  | 85 => ⟨S1x16x2048, .f32⟩
  | 86 => ⟨S1x16x2048x1, .f32⟩
  | 87 => ⟨S_, .f32⟩
  | 88 => ⟨S1x16x2048x1, .f32⟩
  | 89 => ⟨S1x16x2048x1, .f32⟩
  | 90 => ⟨S1x16x2048x64, .f32⟩
  | 91 => ⟨S1x16x2048x64, .f32⟩
  | 92 => ⟨S_, .f32⟩
  | 93 => ⟨S1x16x2048x1, .f32⟩
  | 94 => ⟨S1x16x2048x1, .f32⟩
  | 95 => ⟨S1x16x2048x1, .f32⟩
  | 96 => ⟨S1x16x2048x64, .f32⟩
  | 97 => ⟨S1x16x2048x64, .f32⟩
  | 98 => ⟨S1x2048x1024, .f32⟩
  | 99 => ⟨S1x2048x16x64, .f32⟩
  | 100 => ⟨S1x16x2048x64, .f32⟩
  | 101 => ⟨S1x2048x1024, .f32⟩
  | 102 => ⟨S1x2048x1024, .f32⟩
  | 103 => ⟨S1x2048x1024, .f32⟩
  | 104 => ⟨S_, .f32⟩
  | 105 => ⟨S1x2048x1024, .f32⟩
  | 106 => ⟨S1x2048x1024, .f32⟩
  | 107 => ⟨S_, .f32⟩
  | 108 => ⟨S1x2048x1024, .f32⟩
  | 109 => ⟨S1x2048x1024, .f32⟩
  | 110 => ⟨S1x2048x1024, .f32⟩
  | 111 => ⟨S1x16x2048x64, .f32⟩
  | 112 => ⟨S_, .f32⟩
  | 113 => ⟨S1x16x2048, .f32⟩
  | 114 => ⟨S1x16x2048x1, .f32⟩
  | 115 => ⟨S16x512x1x2048, .f32⟩
  | 116 => ⟨S1x16x2048x512, .f32⟩
  | 117 => ⟨S_, .f32⟩
  | 118 => ⟨S1x16x2048x512, .f32⟩
  | 119 => ⟨S1x16x2048x512, .f32⟩
  | 120 => ⟨S1x16x2048x512, .f32⟩
  | 121 => ⟨S1x16x2048x512, .f32⟩
  | 122 => ⟨S16x512x64, .f32⟩
  | 123 => ⟨S_, .f32⟩
  | 124 => ⟨S16x512, .f32⟩
  | 125 => ⟨S1x16x1x512, .f32⟩
  | 126 => ⟨S1x16x2048x512, .f32⟩
  | 127 => ⟨S1x16x2048x512, .f32⟩
  | _ => ⟨S1x2048x1024, .f32⟩

abbrev hbmTy0_1 (i : Nat) : BufTy := match i % 128 with
  | 0 => ⟨S1x16x2048x512, .i32⟩
  | 1 => ⟨S_, .f32⟩
  | 2 => ⟨S_, .i32⟩
  | 3 => ⟨S1x16x2048, .f32⟩
  | 4 => ⟨S1x16x2048, .i32⟩
  | 5 => ⟨S16, .i32⟩
  | 6 => ⟨S1x16x1, .i32⟩
  | 7 => ⟨S_, .i32⟩
  | 8 => ⟨S1x16x1, .i32⟩
  | 9 => ⟨S1x16x1, .i1⟩
  | 10 => ⟨S_, .i32⟩
  | 11 => ⟨S1x16x1, .i32⟩
  | 12 => ⟨S1x16x1, .i32⟩
  | 13 => ⟨S1x16x1, .i32⟩
  | 14 => ⟨S_, .i32⟩
  | 15 => ⟨S1x16x2048, .i32⟩
  | 16 => ⟨S1x16x2048, .i1⟩
  | 17 => ⟨S_, .i32⟩
  | 18 => ⟨S1x16x2048, .i32⟩
  | 19 => ⟨S1x16x2048, .i32⟩
  | 20 => ⟨S1x16x2048, .i32⟩
  | 21 => ⟨S1x16x2048, .i32⟩
  | 22 => ⟨S1x16x2048x1, .i32⟩
  | 23 => ⟨S1x16x2048x1, .i32⟩
  | 24 => ⟨S1x16x2048x2, .i32⟩
  | 25 => ⟨S1x16x2048x64, .f32⟩
  | 26 => ⟨S1x1x2048x1, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S1x16x2048x64, .f32⟩
  | 36 => ⟨S1x16x2048x64, .f32⟩
  | 37 => ⟨S1x16x2048x64, .f32⟩
  | 38 => ⟨S1x16x2048x64, .f32⟩
  | 39 => ⟨S_, .f32⟩
  | 40 => ⟨S_, .f32⟩
  | 41 => ⟨S_, .f32⟩
  | 42 => ⟨S1x16x2048x64, .f32⟩
  | 43 => ⟨S1x16x2048x64, .f32⟩
  | 44 => ⟨S1x16x2048x64, .f32⟩
  | 45 => ⟨S1x16x2048x64, .f32⟩
  | 46 => ⟨S_, .f32⟩
  | 47 => ⟨S_, .f32⟩
  | 48 => ⟨S_, .f32⟩
  | 49 => ⟨S1x16x2048x64, .f32⟩
  | 50 => ⟨S1x16x2048x64, .f32⟩
  | 51 => ⟨S1x16x2304x64, .f32⟩
  | 52 => ⟨S1x16x2304x64, .f32⟩
  | 53 => ⟨S2048, .i32⟩
  | 54 => ⟨S2048, .i32⟩
  | 55 => ⟨S2048, .i32⟩
  | 56 => ⟨S256, .i32⟩
  | 57 => ⟨S_, .i32⟩
  | 58 => ⟨S_, .i32⟩
  | 59 => ⟨S256, .i32⟩
  | 60 => ⟨S256, .i32⟩
  | 61 => ⟨S2304, .i32⟩
  | 62 => ⟨S1x2304, .i32⟩
  | 63 => ⟨S1x2304, .i32⟩
  | 64 => ⟨S2048x1, .i32⟩
  | 65 => ⟨S2048x2304, .i32⟩
  | 66 => ⟨S2048x2304, .i32⟩
  | 67 => ⟨S2048x2304, .i1⟩
  | 68 => ⟨S1x1x2304, .i32⟩
  | 69 => ⟨S1x2048x1, .i32⟩
  | 70 => ⟨S1x2048x2304, .i32⟩
  | 71 => ⟨S1x2048x2304, .i32⟩
  | 72 => ⟨S1x2048x2304, .i1⟩
  | 73 => ⟨S1x2048x2304, .i1⟩
  | 74 => ⟨S1x2048x2304, .i1⟩
  | 75 => ⟨S1x16x1x64, .f32⟩
  | 76 => ⟨S1x16x2048x64, .f32⟩
  | 77 => ⟨S1x16x2048x64, .f32⟩
  | 78 => ⟨S1x16x2048x2304, .f32⟩
  | 79 => ⟨S_, .f32⟩
  | 80 => ⟨S1x16x2048x2304, .f32⟩
  | 81 => ⟨S1x16x2048x2304, .f32⟩
  | 82 => ⟨S1x1x2048x2304, .i1⟩
  | 83 => ⟨S_, .f32⟩
  | 84 => ⟨S_, .f32⟩
  | 85 => ⟨S1x16x2048x2304, .i1⟩
  | 86 => ⟨S1x16x2048x2304, .f32⟩
  | 87 => ⟨S1x16x2048x2304, .f32⟩
  | 88 => ⟨S_, .f32⟩
  | 89 => ⟨S1x16x2048, .f32⟩
  | 90 => ⟨S_, .f32⟩
  | 91 => ⟨S1x16x2048, .f32⟩
  | 92 => ⟨S1x16x2048, .f32⟩
  | 93 => ⟨S1x16x2048x1, .f32⟩
  | 94 => ⟨S1x16x2048x2304, .f32⟩
  | 95 => ⟨S1x16x2048x2304, .f32⟩
  | 96 => ⟨S1x16x2048x2304, .f32⟩
  | 97 => ⟨S_, .f32⟩
  | 98 => ⟨S1x16x2048, .f32⟩
  | 99 => ⟨S1x16x2048x1, .f32⟩
  | 100 => ⟨S1x16x2048x2304, .f32⟩
  | 101 => ⟨S1x16x2048x2304, .f32⟩
  | 102 => ⟨S1x16x2048x64, .f32⟩
  | 103 => ⟨S1x2048x16x64, .f32⟩
  | 104 => ⟨S1x2048x1024, .f32⟩
  | 105 => ⟨S1x2048x1024, .f32⟩
  | 106 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_call0_v5 : Ref sig .tc := ⟨.hbm, 109, rfl⟩
abbrev main_v70 : Ref sig .tc := ⟨.hbm, 110, rfl⟩
abbrev main_v71 : Ref sig .tc := ⟨.hbm, 111, rfl⟩
abbrev main_cst_14 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_15 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_16 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_call1_v0 : Ref sig .tc := ⟨.hbm, 128, rfl⟩
abbrev main_call1_cst : Ref sig .tc := ⟨.hbm, 129, rfl⟩
abbrev main_call1_c : Ref sig .tc := ⟨.hbm, 130, rfl⟩
abbrev main_call1_v1_0 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_c : Ref sig .tc := ⟨.hbm, 135, rfl⟩
abbrev main_v88 : Ref sig .tc := ⟨.hbm, 136, rfl⟩
abbrev main_v89 : Ref sig .tc := ⟨.hbm, 137, rfl⟩
abbrev main_c_17 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_18 : Ref sig .tc := ⟨.hbm, 142, rfl⟩
abbrev main_v93 : Ref sig .tc := ⟨.hbm, 143, rfl⟩
abbrev main_v94 : Ref sig .tc := ⟨.hbm, 144, rfl⟩
abbrev main_c_19 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_20 : Ref sig .tc := ⟨.hbm, 155, rfl⟩
abbrev main_v104 : Ref sig .tc := ⟨.hbm, 156, rfl⟩
abbrev main_cst_21 : Ref sig .tc := ⟨.hbm, 157, rfl⟩
abbrev main_v105 : Ref sig .tc := ⟨.hbm, 158, rfl⟩
abbrev main_cst_22 : Ref sig .tc := ⟨.hbm, 159, rfl⟩
abbrev main_v106 : Ref sig .tc := ⟨.hbm, 160, rfl⟩
abbrev main_cst_23 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_24 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_25 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_c_26 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_27 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_cst_28 : Ref sig .tc := ⟨.hbm, 211, rfl⟩
abbrev main_call2_v0 : Ref sig .tc := ⟨.hbm, 212, rfl⟩
abbrev main_call2_v1 : Ref sig .tc := ⟨.hbm, 213, rfl⟩
abbrev main_call2_v2 : Ref sig .tc := ⟨.hbm, 214, rfl⟩
abbrev main_v152 : Ref sig .tc := ⟨.hbm, 215, rfl⟩
abbrev main_cst_29 : Ref sig .tc := ⟨.hbm, 216, rfl⟩
abbrev main_v153 : Ref sig .tc := ⟨.hbm, 217, rfl⟩
abbrev main_cst_30 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_31 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩

abbrev nD : Nat := 1
abbrev τ : Topo := Topo.v7x

variable {F : FTy → Type} [FloatOps F]
-- ==== Proof.Spec.lean ====
module

public import Idealize.ShloMosaic.Lib.Pointwise

@[expose] public section

/-! The layer's formula over the ideal numbers, by coordinates: what both programs are shown to compute. -/

noncomputable section

namespace Cert.Spec

open Idealize.ShloMosaic

/-- The arrays the results depend on, by coordinates. -/
structure Inp where
  /-- the input features -/
  x : Fin 2048 → Fin 1024 → EReal
  /-- the scale of the first norm -/
  g : Fin 1024 → EReal
  /-- the shift of the first norm -/
  b : Fin 1024 → EReal
  /-- the five weights -/
  wq : Fin 1024 → Fin 1024 → EReal
  wk : Fin 1024 → Fin 1024 → EReal
  wv : Fin 1024 → Fin 1024 → EReal
  wg : Fin 1024 → Fin 1024 → EReal
  wr : Fin 1024 → Fin 1024 → EReal
  /-- the bias added to the queries -/
  xu : Fin 16 → Fin 64 → EReal
  /-- the codebook of each head -/
  cb : Fin 16 → Fin 512 → Fin 64 → EReal
  /-- the cached keys and values -/
  xk : Fin 16 → Fin 256 → Fin 64 → EReal
  xv : Fin 16 → Fin 256 → Fin 64 → EReal
  /-- the loss mask -/
  lm : Fin 2048 → EReal

/-- `1e-6`, as rounded. -/
abbrev eps : EReal := Ideal.ofBits FTy.f32 897988541#32
/-- `1024`. -/
abbrev c1024 : EReal := Ideal.ofBits FTy.f32 1149239296#32
/-- `64`. -/
abbrev c64 : EReal := Ideal.ofBits FTy.f32 1115684864#32
/-- `1/8`. -/
abbrev c8th : EReal := Ideal.ofBits FTy.f32 1040187392#32
/-- `2`. -/
abbrev c2 : EReal := Ideal.ofBits FTy.f32 1073741824#32
/-- `1e-8`, as rounded. -/
abbrev tiny : EReal := Ideal.ofBits FTy.f32 841731191#32

/-- A row less its mean, over its deviation; `c` is the row's length. -/
def nrm {n : ℕ} (c : EReal) (r : Fin n → EReal) (i : Fin n) : EReal :=
  (r i - Ideal.div (∑ x, r x) c) *
    Ideal.rsqrt (Ideal.div (∑ x, (r x - Ideal.div (∑ x, r x) c) * (r x - Ideal.div (∑ x, r x) c)) c + eps)

/-- The larger of the two lists' largest scores. -/
def top {m n : ℕ} (a : Fin m → EReal) (c : Fin n → EReal) : EReal := max (Finset.univ.sup a) (Finset.univ.sup c)
/-- The values `u`, `v` weighted by the exponentials of the scores `a`, `c` less the largest, over the sum of the weights. -/
def attn {m n : ℕ} (a : Fin m → EReal) (c : Fin n → EReal) (u : Fin m → EReal) (v : Fin n → EReal) : EReal :=
  Ideal.div (∑ t, u t * Ideal.exp (a t - top a c) + ∑ t, v t * Ideal.exp (c t - top a c))
    (∑ t, Ideal.exp (a t - top a c) + ∑ t, Ideal.exp (c t - top a c))

/-- Column `d` of head `h`. -/
def hcol (h : Fin 16) (d : Fin 64) : Fin 1024 := ⟨h.val * 64 + d.val, by omega⟩
/-- The head of column `x`. -/
def hd (x : Fin 1024) : Fin 16 := ⟨x.val / 64, by omega⟩
/-- The column of `x` in its head. -/
def hc (x : Fin 1024) : Fin 64 := ⟨x.val % 64, by omega⟩

variable (I : Inp)

/-- The normed input. -/
def xt (s : Fin 2048) (d : Fin 1024) : EReal := nrm c1024 (I.x s) d * I.g d + I.b d
/-- A projection. -/
def pr (w : Fin 1024 → Fin 1024 → EReal) (s : Fin 2048) (e : Fin 1024) : EReal := ∑ d, xt I s d * w d e
/-- The queries with their bias. -/
def qu (h : Fin 16) (s : Fin 2048) (d : Fin 64) : EReal :=
  nrm c64 (fun d => pr I I.wq s (hcol h d)) d + I.xu h d
/-- The keys. -/
def ky (h : Fin 16) (s : Fin 2048) (d : Fin 64) : EReal := nrm c64 (fun d => pr I I.wk s (hcol h d)) d
/-- The values. -/
def vl (h : Fin 16) (s : Fin 2048) (d : Fin 64) : EReal := pr I I.wv s (hcol h d)
/-- The gate. -/
def gt (s : Fin 2048) (e : Fin 1024) : EReal := pr I I.wg s e * Ideal.logistic (pr I I.wg s e)
/-- `c` is the first place of a least value. -/
def FirstMin (f : Fin 512 → EReal) (c : Fin 512) : Prop := (∀ j, f c ≤ f j) ∧ ∀ j, f j = f c → c ≤ j

theorem exists_firstMin (f : Fin 512 → EReal) : ∃ c, FirstMin f c := by
  obtain ⟨m, -, hm⟩ := Finset.exists_min_image Finset.univ f ⟨0, Finset.mem_univ _⟩
  have hne : (Finset.univ.filter fun j => f j = f m).Nonempty := ⟨m, by simp⟩
  refine ⟨(Finset.univ.filter fun j => f j = f m).min' hne, ?_, ?_⟩
  · intro j
    have h := (Finset.mem_filter.1 (Finset.min'_mem _ hne)).2
    rw [h]; exact hm j (Finset.mem_univ _)
  · intro j hj
    have h := (Finset.mem_filter.1 (Finset.min'_mem _ hne)).2
    exact Finset.min'_le _ _ (by simp [hj, h])

theorem FirstMin.unique {f : Fin 512 → EReal} {c c' : Fin 512} (h : FirstMin f c) (h' : FirstMin f c') : c = c' := by
  have e : f c = f c' := le_antisymm (h.1 _) (h'.1 _)
  exact le_antisymm (h.2 _ e.symm) (h'.2 _ e)

/-- The first place of a least value. -/
def amin (f : Fin 512 → EReal) : Fin 512 := (exists_firstMin f).choose
theorem amin_spec (f : Fin 512 → EReal) : FirstMin f (amin f) := (exists_firstMin f).choose_spec

/-- Squared distances of a key to the codewords. -/
def dist (k : Fin 64 → EReal) (cb : Fin 512 → Fin 64 → EReal) (c : Fin 512) : EReal :=
  ∑ x, k x * k x - c2 * ∑ x, cb c x * k x + ∑ x, cb c x * cb c x
/-- The nearest codeword, the first of them. -/
def near (k : Fin 64 → EReal) (cb : Fin 512 → Fin 64 → EReal) (d : Fin 64) : EReal := cb (amin (dist k cb)) d
/-- Squared error of a key's quantisation. -/
def err (k : Fin 64 → EReal) (cb : Fin 512 → Fin 64 → EReal) : EReal := ∑ d, (k d - near k cb d) * (k d - near k cb d)

/-- The codeword of a key. -/
def kh (h : Fin 16) (s : Fin 2048) (d : Fin 64) : EReal := near (ky I h s) (I.cb h) d
/-- Squared error of a key's quantisation. -/
def er (h : Fin 16) (s : Fin 2048) : EReal := err (ky I h s) (I.cb h)
/-- The loss. -/
def loss : EReal := Ideal.div (∑ h : Fin 16, ∑ s, er I h s * I.lm s) ((∑ s, I.lm s) * c1024 + tiny)

/-- Score of query `s` against the cached key `t`. -/
def sm (h : Fin 16) (s : Fin 2048) (t : Fin 256) : EReal := (∑ d, I.xk h t d * qu I h s d) * c8th
/-- Score of query `s` against its own key `t`, minus infinity for the keys after it. -/
def ss (h : Fin 16) (s t : Fin 2048) : EReal := if t ≤ s then (∑ d, kh I h t d * qu I h s d) * c8th else ⊥
/-- The weighted sum of the values, over the sum of the weights, in a head. -/
def wvd (h : Fin 16) (s : Fin 2048) (d : Fin 64) : EReal :=
  attn (sm I h s) (ss I h s) (fun t => I.xv h t d) (fun t => vl I h t d)
/-- The layer's result. -/
def res (s : Fin 2048) (e : Fin 1024) : EReal := ∑ x, wvd I (hd x) s (hc x) * gt I s x * I.wr x e

/-- What the claim asks of the numbers it needs real. -/
structure Real : Prop where
  x : ∀ s d, I.x s d ≠ ⊤ ∧ I.x s d ≠ ⊥
  g : ∀ d, I.g d ≠ ⊤ ∧ I.g d ≠ ⊥
  b : ∀ d, I.b d ≠ ⊤ ∧ I.b d ≠ ⊥
  wq : ∀ d e, I.wq d e ≠ ⊤ ∧ I.wq d e ≠ ⊥
  wk : ∀ d e, I.wk d e ≠ ⊤ ∧ I.wk d e ≠ ⊥
  xu : ∀ h d, I.xu h d ≠ ⊤ ∧ I.xu h d ≠ ⊥
  xk : ∀ h t d, I.xk h t d ≠ ⊤ ∧ I.xk h t d ≠ ⊥
  cb : ∀ h c d, I.cb h c d ≠ ⊤ ∧ I.cb h c d ≠ ⊥

end Cert.Spec

end
-- ==== Proof.SpecReal.lean ====
module

public import proofs.«01_k».proof.Proof.Spec

@[expose] public section

/-! Which of the layer's numbers are real when the inputs are. -/

set_option maxRecDepth 16384

noncomputable section

namespace Cert.Spec

open Idealize.ShloMosaic

/-- A number that is neither infinity. -/
def IsR (a : EReal) : Prop := ∃ r : ℝ, a = r

theorem IsR.of_ne {a : EReal} (h : a ≠ ⊤ ∧ a ≠ ⊥) : IsR a := ⟨a.toReal, (EReal.coe_toReal h.1 h.2).symm⟩
theorem IsR.ne_top {a : EReal} (h : IsR a) : a ≠ ⊤ := by obtain ⟨r, rfl⟩ := h; exact EReal.coe_ne_top r
theorem IsR.ne_bot {a : EReal} (h : IsR a) : a ≠ ⊥ := by obtain ⟨r, rfl⟩ := h; exact EReal.coe_ne_bot r
theorem IsR.add {a b : EReal} (ha : IsR a) (hb : IsR b) : IsR (a + b) := by
  obtain ⟨r, rfl⟩ := ha; obtain ⟨s, rfl⟩ := hb; exact ⟨r + s, (EReal.coe_add r s).symm⟩
theorem IsR.sub {a b : EReal} (ha : IsR a) (hb : IsR b) : IsR (a - b) := by
  obtain ⟨r, rfl⟩ := ha; obtain ⟨s, rfl⟩ := hb; exact ⟨r - s, (EReal.coe_sub r s).symm⟩
theorem IsR.mul {a b : EReal} (ha : IsR a) (hb : IsR b) : IsR (a * b) := by
  obtain ⟨r, rfl⟩ := ha; obtain ⟨s, rfl⟩ := hb; exact ⟨r * s, (EReal.coe_mul r s).symm⟩
theorem IsR.sum {ι : Type*} (s : Finset ι) {f : ι → EReal} (h : ∀ i, IsR (f i)) : IsR (∑ i ∈ s, f i) := by
  classical
  induction s using Finset.induction_on with
  | empty => exact ⟨0, by simp⟩
  | insert a t ha ih => rw [Finset.sum_insert ha]; exact (h a).add ih
theorem isR_zero : IsR 0 := ⟨0, rfl⟩

theorem div_pos {a : EReal} {c : ℝ} (hc : 0 < c) : Ideal.div a (c : EReal) = a * ((c⁻¹ : ℝ) : EReal) := by
  unfold Ideal.div
  rw [if_neg (by exact_mod_cast hc.ne'), EReal.coe_inv]

theorem IsR.div {a : EReal} {c : ℝ} (ha : IsR a) (hc : 0 < c) : IsR (Ideal.div a c) := by
  rw [div_pos hc]; exact ha.mul ⟨_, rfl⟩

theorem eps_eq : ∃ r : ℝ, 0 < r ∧ eps = (r : EReal) := by
  refine ⟨(8796093 : ℝ) * 2 ^ (-43 : ℤ), by positivity, ?_⟩
  simp [eps, Ideal.ofBits, Ideal.ieee, -EReal.coe_mul]
theorem c1024_eq : c1024 = ((1024 : ℝ) : EReal) := by
  simp [c1024, Ideal.ofBits, Ideal.ieee, -EReal.coe_mul]; norm_num
theorem c64_eq : c64 = ((64 : ℝ) : EReal) := by
  simp [c64, Ideal.ofBits, Ideal.ieee, -EReal.coe_mul]; norm_num
theorem c16_eq : Ideal.ofBits FTy.f32 1098907648#32 = ((16 : ℝ) : EReal) := by
  simp [Ideal.ofBits, Ideal.ieee, -EReal.coe_mul]; norm_num
theorem c8_eq : Ideal.ofBits FTy.f32 1090519040#32 = ((8 : ℝ) : EReal) := by
  simp [Ideal.ofBits, Ideal.ieee, -EReal.coe_mul]; norm_num
theorem c8th_eq : c8th = (((8 : ℝ)⁻¹ : ℝ) : EReal) := by
  simp [c8th, Ideal.ofBits, Ideal.ieee, -EReal.coe_mul]; norm_num
theorem ninf_eq : Ideal.ofBits FTy.f32 4286578688#32 = ⊥ := by
  simp [Ideal.ofBits, Ideal.ieee]
theorem pinf_eq : Ideal.ofBits FTy.f32 2139095040#32 = ⊤ := by
  simp [Ideal.ofBits, Ideal.ieee]

/-- The deviation of a real row is real. -/
theorem nrm_isR {n : ℕ} {c : ℝ} (hc : 0 < c) {r : Fin n → EReal} (hr : ∀ i, IsR (r i)) (i : Fin n) : IsR (nrm c r i) := by
  unfold nrm
  have hm : IsR (Ideal.div (∑ x, r x) c) := (IsR.sum _ hr).div hc
  refine ((hr i).sub hm).mul ?_
  have hs : ∃ v : ℝ, 0 ≤ v ∧ (∑ x, (r x - Ideal.div (∑ x, r x) c) * (r x - Ideal.div (∑ x, r x) c)) = (v : EReal) := by
    choose f hf using fun x => (hr x).sub hm
    refine ⟨∑ x, f x * f x, Finset.sum_nonneg fun x _ => mul_self_nonneg _, ?_⟩
    simp only [hf]
    have : ∀ s : Finset (Fin n), ∑ x ∈ s, ((f x : EReal) * (f x : EReal)) = ((∑ x ∈ s, f x * f x : ℝ) : EReal) := by
      intro s
      induction s using Finset.induction_on with
      | empty => simp
      | insert a t ha ih => rw [Finset.sum_insert ha, Finset.sum_insert ha, ih, EReal.coe_add, EReal.coe_mul]
    exact this _
  obtain ⟨v, hv, e⟩ := hs
  obtain ⟨p, hp, e'⟩ := eps_eq
  rw [e, div_pos hc, e', ← EReal.coe_mul, ← EReal.coe_add]
  have hq : 0 < v * c⁻¹ + p := by positivity
  refine ⟨(Real.sqrt (v * c⁻¹ + p))⁻¹, ?_⟩
  show (if v * c⁻¹ + p < 0 then _ else if v * c⁻¹ + p = 0 then _ else _) = _
  rw [if_neg hq.le.not_gt, if_neg hq.ne']

variable {I : Inp} (R : Real I)
include R

theorem xt_isR (s : Fin 2048) (d : Fin 1024) : IsR (xt I s d) := by
  unfold xt
  rw [c1024_eq]
  exact ((nrm_isR (by norm_num) (fun i => .of_ne (R.x s i)) d).mul (.of_ne (R.g d))).add (.of_ne (R.b d))
theorem ky_isR (h : Fin 16) (s : Fin 2048) (d : Fin 64) : IsR (ky I h s d) := by
  unfold ky
  rw [c64_eq]
  exact nrm_isR (by norm_num) (fun i => IsR.sum _ fun x => (xt_isR R s x).mul (.of_ne (R.wk x _))) d
theorem qu_isR (h : Fin 16) (s : Fin 2048) (d : Fin 64) : IsR (qu I h s d) := by
  unfold qu
  rw [c64_eq]
  exact (nrm_isR (by norm_num) (fun i => IsR.sum _ fun x => (xt_isR R s x).mul (.of_ne (R.wq x _))) d).add (.of_ne (R.xu h d))
theorem kh_isR (h : Fin 16) (s : Fin 2048) (d : Fin 64) : IsR (kh I h s d) := .of_ne (R.cb _ _ _)
theorem sm_isR (h : Fin 16) (s : Fin 2048) (t : Fin 256) : IsR (sm I h s t) := by
  unfold sm
  rw [c8th_eq]
  exact (IsR.sum _ fun d => (IsR.of_ne (R.xk h t d)).mul (qu_isR R h s d)).mul ⟨_, rfl⟩
theorem ss_ne_top (h : Fin 16) (s t : Fin 2048) : ss I h s t ≠ ⊤ := by
  unfold ss
  split
  · rw [c8th_eq]
    exact ((IsR.sum _ fun d => (kh_isR R h t d).mul (qu_isR R h s d)).mul ⟨_, rfl⟩).ne_top
  · exact bot_ne_top

end Cert.Spec

end
-- ==== Proof.Dom.lean ====
module

public import proofs.«01_k».proof.Pre_one_document
public import proofs.«01_k».proof.Proof.SpecReal
public import Idealize.ShloMosaic.Lib.ReduceAll
public import Idealize.ShloMosaic.Lib.StableHlo.Predicate

@[expose] public section

/-! The precondition, read back as facts of the arrays. -/

set_option maxRecDepth 16384

noncomputable section

namespace Cert.Pre_one_document.Dom

open Cert.Pre_one_document Idealize.ShloMosaic

/-- The shape relations the precondition's operations take. -/
theorem facts : Cert.Pre_one_document.Facts where
  slices_S1x2048_S1x1_0_0 := by decide
  shapeCasts_S1x1_S_ := by decide
  bcast_S_S1x2048 := by decide
  reducesTo_S1x2048_S_d0_1 := by decide
  h_S_ := by decide
  bcast_S_S1x256 := by decide
  reducesTo_S1x256_S_d0_1 := by decide
  bcast_S_S1x2048x1024 := by decide
  reducesTo_S1x2048x1024_S_d0_1_2 := by decide
  bcast_S_S1024 := by decide
  reducesTo_S1024_S_d0 := by decide
  bcast_S_S1024x1024 := by decide
  reducesTo_S1024x1024_S_d0_1 := by decide
  bcast_S_S16x64 := by decide
  reducesTo_S16x64_S_d0_1 := by decide
  bcast_S_S1x16x256x64 := by decide
  reducesTo_S1x16x256x64_S_d0_1_2_3 := by decide
  bcast_S_S16x512x64 := by decide
  reducesTo_S16x512x64_S_d0_1_2 := by decide

theorem one_of_and {a b : IVec S_ 1} (h : andi a b = fun _ => 1#1) : a = (fun _ => 1#1) ∧ b = fun _ => 1#1 :=
  ⟨funext fun i => (IntOp.andi_eq_one.1 (congrFun h i)).1, funext fun i => (IntOp.andi_eq_one.1 (congrFun h i)).2⟩

instance : Subsingleton S_.Idx := ⟨fun a b => funext fun k => k.elim0⟩

theorem spread {s : Shape} (v : IVec S_ 32) (hb : S_.BroadcastsInDim s (![] : Fin 0 → Fin s.rank)) (i : s.Idx) : broadcastInDim s ![] hb v i = v ix0 :=
  congrArg v (Subsingleton.elim _ _)

/-- An array all of whose magnitudes lie under the infinity holds finite numbers. -/
theorem fin_of_all {s : Shape} (x : FVec Ideal s .f32) {axes : List (Fin s.rank)} (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu = fun _ => 1#1)
    (i : s.Idx) : (x i : EReal) ≠ ⊤ ∧ (x i : EReal) ≠ ⊥ := by
  have e := Host.reduce_andi_all _ _ hr hu ix0 (congrFun h _) i
  have e' : FloatOps.cmpf (F := Ideal) (φ := .f32) .olt (max (x i : EReal) (-(x i : EReal))) (Ideal.ofBits .f32 0x7F800000#32) = 1#1 := e
  rw [Spec.pinf_eq] at e'
  have lt : max (x i : EReal) (-(x i : EReal)) < ⊤ := by
    by_contra hn
    rw [Ideal.cmpf_def] at e'
    simp [Ideal.cmp, hn] at e'
  refine ⟨fun ht => ?_, fun hb => ?_⟩
  · rw [ht] at lt; simp at lt
  · rw [hb] at lt; simp at lt

variable [Facts]

/-- What the precondition says of the arrays. -/
structure Says (a0 : FVec Ideal S1x2048x1024 .f32) (a1 : IVec S1x2048 32) (a3 : FVec Ideal S1x16x256x64 .f32) (a6 : IVec S1x256 32) (a7 : IVec S_ 32)
    (a8 a9 : FVec Ideal S1024 .f32) (a10 a11 : FVec Ideal S1024x1024 .f32) (a15 : FVec Ideal S16x64 .f32) (a16 : FVec Ideal S16x512x64 .f32) : Prop where
  f0 : ∀ i, (a0 i : EReal) ≠ ⊤ ∧ (a0 i : EReal) ≠ ⊥
  f3 : ∀ i, (a3 i : EReal) ≠ ⊤ ∧ (a3 i : EReal) ≠ ⊥
  f8 : ∀ i, (a8 i : EReal) ≠ ⊤ ∧ (a8 i : EReal) ≠ ⊥
  f9 : ∀ i, (a9 i : EReal) ≠ ⊤ ∧ (a9 i : EReal) ≠ ⊥
  f10 : ∀ i, (a10 i : EReal) ≠ ⊤ ∧ (a10 i : EReal) ≠ ⊥
  f11 : ∀ i, (a11 i : EReal) ≠ ⊤ ∧ (a11 i : EReal) ≠ ⊥
  f15 : ∀ i, (a15 i : EReal) ≠ ⊤ ∧ (a15 i : EReal) ≠ ⊥
  f16 : ∀ i, (a16 i : EReal) ≠ ⊤ ∧ (a16 i : EReal) ≠ ⊥
  doc : ∃ D, (∀ i, a1 i = D) ∧ ∀ i, a6 i = D
  pos : ∃ p : ℕ, p ≤ 2 ^ 30 ∧ ∀ i, a7 i = BitVec.ofNat 32 p

theorem pos_of {w : BitVec 32} (h0 : IntOp.cmpi .sge w 0#32 = 1#1) (h1 : IntOp.cmpi .sle w 1073741824#32 = 1#1) : ∃ p : ℕ, p ≤ 2 ^ 30 ∧ w = BitVec.ofNat 32 p := by
  rw [IntOp.cmpi_sge] at h0
  rw [IntOp.cmpi_sle] at h1
  have e0 : (0#32).toInt = 0 := by decide
  have e1 : (1073741824#32).toInt = 1073741824 := by decide
  rw [e0] at h0
  rw [e1] at h1
  have et := BitVec.toInt_eq_toNat_cond w
  refine ⟨w.toNat, ?_, by simp⟩
  split at et
  all_goals omega

theorem all_of (a0 : FVec Ideal S1x2048x1024 .f32) (a1 : IVec S1x2048 32) (a2 : FVec Ideal S1x2048 .f32) (a3 a4 : FVec Ideal S1x16x256x64 .f32) (a5 : IVec S1x16x256 32)
    (a6 : IVec S1x256 32) (a7 : IVec S_ 32) (a8 a9 : FVec Ideal S1024 .f32) (a10 a11 a12 a13 a14 : FVec Ideal S1024x1024 .f32) (a15 : FVec Ideal S16x64 .f32)
    (a16 : FVec Ideal S16x512x64 .f32) (h : fn (F := Ideal) a0 a1 a2 a3 a4 a5 a6 a7 a8 a9 a10 a11 a12 a13 a14 a15 a16 = fun _ => 1#1) :
    Says a0 a1 a3 a6 a7 a8 a9 a10 a11 a15 a16 := by
  unfold fn fn_part1 fn_part2 fn_part3 at h
  obtain ⟨h53, h52⟩ := one_of_and h
  obtain ⟨h10, h13⟩ := one_of_and h53
  obtain ⟨h47, h51⟩ := one_of_and h52
  obtain ⟨h42, h46⟩ := one_of_and h47
  obtain ⟨h37, h41⟩ := one_of_and h42
  obtain ⟨h32, h36⟩ := one_of_and h37
  obtain ⟨h27, h31⟩ := one_of_and h32
  obtain ⟨h22, h26⟩ := one_of_and h27
  obtain ⟨h17, h21⟩ := one_of_and h22
  obtain ⟨h4, h9⟩ := one_of_and h10
  obtain ⟨h11, h12⟩ := one_of_and h13
  refine ⟨fin_of_all a0 _ _ _ h17, fin_of_all a3 _ _ _ h46, fin_of_all a8 _ _ _ h21, fin_of_all a9 _ _ _ h26, fin_of_all a10 _ _ _ h31, fin_of_all a11 _ _ _ h36,
    fin_of_all a15 _ _ _ h41, fin_of_all a16 _ _ _ h51, ?_, ?_⟩
  · refine ⟨shapeCast S_ (extractStridedSlice S1x1 ![0, 0] a1 Facts.slices_S1x2048_S1x1_0_0) Facts.shapeCasts_S1x1_S_ ix0, fun i => ?_, fun i => ?_⟩
    · exact (StableHlo.Predicate.cmpi_eq_iff.1 (Host.reduce_andi_all _ _ _ _ ix0 (congrFun h4 _) i)).trans (spread _ _ _)
    · exact (StableHlo.Predicate.cmpi_eq_iff.1 (Host.reduce_andi_all _ _ _ _ ix0 (congrFun h9 _) i)).trans (spread _ _ _)
  · obtain ⟨p, hp, e⟩ := pos_of (congrFun h11 ix0) (congrFun h12 ix0)
    exact ⟨p, hp, fun i => (congrArg a7 (Subsingleton.elim _ _)).trans e⟩

end Cert.Pre_one_document.Dom

end
-- ==== Proof.KRun.lean ====
/- The kernel program's run with its results: what the two result buffers hold at the end is their contents at the last boundary. -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option backward.isDefEq.respectTransparency.types false in
/-- Every run ends with the results at the last boundary's contents and the arguments as launched. -/
theorem run : θ_run defs (onTc (τ := τ) (main (F := F))) ⟨m, fun _ => 0, ρ⟩ (fun r => ∀ c : Dev nD,
      r.2.mem ((c.tc : Thread nD τ).loc main_v38) = W14 m ρ c (Proc.devRef .tc main_v38)
      ∧ r.2.mem ((c.tc : Thread nD τ).loc main_v37) = W14 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ c =>
      ⟨h c _ (mem_uc main_v38 (by decide)),
       h c _ (mem_uc main_v37 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c)⟩)

end Cert.KernelIdeal.Val

end
-- ==== Proof.KHost.lean ====
module

public import proofs.«01_k».proof.Proof.KRun
public import proofs.«01_k».proof.Proof.Spec
public import Idealize.ShloMosaic.Lib.StableHlo.ReadAt
public import Idealize.ShloMosaic.Lib.Pointwise
public import Idealize.ShloMosaic.Lib.ValueIdx

@[expose] public section

/-! What the stretches of array operations between the grids leave, read at an index. -/

set_option maxRecDepth 16384

noncomputable section

namespace Cert.KernelIdeal.Val

open Cert.KernelIdeal Cert.KernelIdeal.Gen Idealize.ShloMosaic Idealize.ShloMosaic.TcCoe Idealize.SL.Sem

variable (V : Valuation τ sig (Elt Ideal))

theorem h0_0 (s : Fin 2048) (d : Fin 1024) : StableHlo.after hostOps0 V (Proc.devRef .tc main_v0) (ix2 s d) = V (Proc.devRef .tc main_arg0) (ix3 0 s d) := by
  after_reads_at
theorem h0_1 (s : Fin 1024) (d : Fin 4096) : StableHlo.after hostOps0 V (Proc.devRef .tc main_v1) (ix2 s d) =
    (if h : d.val < 1024 then V (Proc.devRef .tc main_arg10) (ix2 s ⟨d.val, h⟩)
    else if h : d.val - 1024 < 1024 then V (Proc.devRef .tc main_arg11) (ix2 s ⟨d.val - 1024, h⟩)
    else if h : d.val - 1024 - 1024 < 1024 then V (Proc.devRef .tc main_arg12) (ix2 s ⟨d.val - 1024 - 1024, h⟩)
    else V (Proc.devRef .tc main_arg13) (ix2 s ⟨d.val - 1024 - 1024 - 1024, by omega⟩) : EReal) := by
  after_reads_at
theorem h0_2 (d : Fin 1024) : StableHlo.after hostOps0 V (Proc.devRef .tc main_v2) (ix2 0 d) = V (Proc.devRef .tc main_arg8) (ix1 d) := by
  after_reads_at
theorem h0_3 (d : Fin 1024) : StableHlo.after hostOps0 V (Proc.devRef .tc main_v3) (ix2 0 d) = V (Proc.devRef .tc main_arg9) (ix1 d) := by
  after_reads_at
theorem h2_6 (h : Fin 16) (d : Fin 64) : StableHlo.after hostOps2 V (Proc.devRef .tc main_v6) (ix3 h d 0) = V (Proc.devRef .tc main_arg15) (ix2 h d) := by
  after_reads_at
theorem h2_8 (s : Fin 1024) : StableHlo.after hostOps2 V (Proc.devRef .tc main_v8) (ix2 s 0) = BitVec.ofNat 32 s.val := by
  after_reads_at
theorem h2_16 (t s : Fin 1024) : StableHlo.after hostOps2 V (Proc.devRef .tc main_v16) (ix2 t s) =
    IntOp.cmpi CmpIPredicate.sle (BitVec.ofNat 32 t.val) (IntOp.addi (0#32) (BitVec.ofNat 32 s.val)) := by
  after_reads_at
theorem h2_c (i) : StableHlo.after hostOps2 V (Proc.devRef .tc main_cst) i = (0 : EReal) := by
  after_reads_at
theorem h2_c0 (i) : StableHlo.after hostOps2 V (Proc.devRef .tc main_cst_0) i = (1 : EReal) := by
  after_reads_at
theorem h2_17 (t s : Fin 1024) : StableHlo.after hostOps2_1 V (Proc.devRef .tc main_v17) (ix2 t s) =
    Scalar.select (V (Proc.devRef .tc main_v16) (ix2 t s)) (V (Proc.devRef .tc main_cst) ix0) (V (Proc.devRef .tc main_cst_0) ix0) := by
  after_reads_at
theorem h2_18 (t s : Fin 1024) : StableHlo.after hostOps2_2 V (Proc.devRef .tc main_v18) (ix2 t s) = V (Proc.devRef .tc main_v17) (ix2 t s) := by
  after_reads_at
  rfl
theorem h3_27 (t : Fin 2048) (s : Fin 1024) : StableHlo.after hostOps3 V (Proc.devRef .tc main_v27) (ix2 t s) =
    IntOp.cmpi CmpIPredicate.sle (BitVec.ofNat 32 t.val) (IntOp.addi (1024#32) (V (Proc.devRef .tc main_v8) (ix2 s 0))) := by
  after_reads_at
theorem h3_c (i) : StableHlo.after hostOps3 V (Proc.devRef .tc main_cst_2) i = (0 : EReal) := by
  after_reads_at
theorem h3_c0 (i) : StableHlo.after hostOps3 V (Proc.devRef .tc main_cst_3) i = (1 : EReal) := by
  after_reads_at
theorem h3_28 (t : Fin 2048) (s : Fin 1024) : StableHlo.after hostOps3_1 V (Proc.devRef .tc main_v28) (ix2 t s) =
    Scalar.select (V (Proc.devRef .tc main_v27) (ix2 t s)) (V (Proc.devRef .tc main_cst_2) ix0) (V (Proc.devRef .tc main_cst_3) ix0) := by
  after_reads_at
theorem h3_29 (t : Fin 2048) (s : Fin 1024) : StableHlo.after hostOps3_2 V (Proc.devRef .tc main_v29) (ix2 t s) = V (Proc.devRef .tc main_v28) (ix2 t s) := by
  after_reads_at
  rfl
theorem h4_31 (h : Fin 16) (d : Fin 64) (s : Fin 2048) : StableHlo.after hostOps4 V (Proc.devRef .tc main_v31) (ix3 h d s) =
    (if g : s.val < 1024 then V (Proc.devRef .tc main_v19) (ix3 h d ⟨s.val, g⟩) else V (Proc.devRef .tc main_v30) (ix3 h d ⟨s.val - 1024, by omega⟩) : EReal) := by
  after_reads_at
theorem h5_38 (s : Fin 2048) (d : Fin 1024) : StableHlo.after hostOps5 V (Proc.devRef .tc main_v38) (ix3 0 s d) = V (Proc.devRef .tc main_v32) (ix2 s d) := by
  after_reads_at
theorem h5_37 (i) : StableHlo.after hostOps5 V (Proc.devRef .tc main_v37) i =
    Ideal.div (V (Proc.devRef .tc main_v5_1) (ix2 0 0)) ((Finset.sum (M := EReal) Finset.univ fun k0 : Fin 1 => Finset.sum (M := EReal) Finset.univ fun k1 : Fin 2048 => V (Proc.devRef .tc main_arg2) (ix2 k0 k1)) * Spec.c1024 + Spec.tiny) := by
  after_reads_at

end Cert.KernelIdeal.Val
end
-- ==== Proof.KReg0.lean ====
module

public import proofs.«01_k».proof.Proof.Gen.KernelIdeal.Frame
public import proofs.«01_k».proof.Proof.Spec
public import Idealize.ShloMosaic.Lib.Pipeline.ValueKit

@[expose] public section

/-! The projections: what the first grid leaves. -/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- The normed input times one column of the four weights laid end to end. -/
def proj1 {n : ℕ} (x : Fin n → Fin 1024 → EReal) (g b : Fin 1024 → EReal) (w : Fin 1024 → Fin 4096 → EReal) (e : Fin 4096) (s : Fin n) : EReal :=
  ∑ d : Fin 1024, w d e * (Spec.nrm Spec.c1024 (x s) d * g d + b d)
/-- The same with the last quarter gated. -/
def proj2 {n : ℕ} (x : Fin n → Fin 1024 → EReal) (g b : Fin 1024 → EReal) (w : Fin 1024 → Fin 4096 → EReal) (e : Fin 4096) (s : Fin n) : EReal :=
  if e.val < 3072 then proj1 x g b w e s else proj1 x g b w e s * Ideal.logistic (proj1 x g b w e s)
/-- The array of them. -/
def proj (X : FVec Ideal S2048x1024 .f32) (g b : FVec Ideal S1x1024 .f32) (w : FVec Ideal S1024x4096 .f32) : FVec Ideal S4096x2048 .f32 := fun j =>
  proj2 (fun s d => X (ix2 s d)) (fun d => g (ix2 0 d)) (fun d => b (ix2 0 d)) (fun d e => w (ix2 d e)) (j 0) (j 1)

theorem proj2_congr {n n' : ℕ} {x : Fin n → Fin 1024 → EReal} {x' : Fin n' → Fin 1024 → EReal} {g g' b b' : Fin 1024 → EReal}
    {w w' : Fin 1024 → Fin 4096 → EReal} {e : Fin 4096} {s : Fin n} {s' : Fin n'}
    (h0 : ∀ d, x s d = x' s' d) (h1 : ∀ d, g d = g' d) (h2 : ∀ d, b d = b' d) (h3 : ∀ d, w d e = w' d e) :
    proj2 x g b w e s = proj2 x' g' b' w' e s' := by
  have h : x s = x' s' := funext h0
  unfold proj2 proj1
  simp only [h, h1, h2, h3]

theorem pay0 (x : FVec Ideal S256x1024 .f32) (g b : FVec Ideal S1x1024 .f32) (w : FVec Ideal S1024x4096 .f32) (e : Fin 4096) (s : Fin 256) :
    k0_pay1 (F := Ideal) x g b w (ix2 e s) =
      proj2 (fun s d => x (ix2 s d)) (fun d => g (ix2 0 d)) (fun d => b (ix2 0 d)) (fun d e => w (ix2 d e)) e s := by
  unfold proj2
  pointwise [k0_pay1]
  split <;> rename_i he
  · rfl
  · have e1 : (⟨3072 + (e.val - 3072), by omega⟩ : Fin 4096) = e := Fin.ext (by simp only; omega)
    simp only [e1]
    rfl

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0] ∧ win0_3.index t = ![0, 0] ∧ win0_4.index t = ![0, t.val] :=
  (by decide +kernel : ∀ t : Fin grid0.N, _)

theorem final0 (c : Dev nD) : (dat0 V c).arrAt 4 cfg0.N = proj (V c main_v0) (V c main_v2) (V c main_v3) (V c main_v1) := by
  refine (dat0 V c).arrAt_eq_of_covers 4 _ (by decide +kernel) fun t _ y => ?_
  blk_simp
  rw [after0_4]; frame_out
  idx_vars y
  have ht : t.val < 8 := t.isLt
  have hj : ((cfg0.win 4).blk t).view.emb (ix2 y0 y1) = (ix2 y0 (⟨t.val * 256 + y1.val, by omega⟩ : Fin 2048) : S4096x2048.Idx) := by
    blk_ext [idx0 t]
  refine Eq.trans ?_ (congrArg (proj _ _ _ _) hj).symm
  refine (pay0 _ _ _ _ _ _).trans (proj2_congr (fun d => ?_) (fun d => ?_) (fun d => ?_) (fun d => ?_))
  · blk_ext [iblk0, idx0 t]
  · blk_ext [iblk0, idx0 t]
  · blk_ext [iblk0, idx0 t]
  · blk_ext [iblk0, idx0 t]

end Cert.KernelIdeal.Val
end
-- ==== Proof.KPay1.lean ====
module

public import proofs.«01_k».proof.Proof.Gen.KernelIdeal.Frame
public import proofs.«01_k».proof.Proof.SpecReal
public import Idealize.ShloMosaic.Lib.Pipeline.ValueKit

@[expose] public section

/-! The quantisation of one head's keys: what its body computes. -/

set_option maxRecDepth 16384

noncomputable section

namespace Cert.KernelIdeal.Val

open Cert.KernelIdeal Cert.KernelIdeal.Gen Idealize.ShloMosaic Idealize.ShloMosaic.TcCoe Idealize.SL.Sem

theorem minsi_toInt (a b : BitVec 32) : (IntOp.minsi a b).toInt = min a.toInt b.toInt := by
  unfold IntOp.minsi
  simp only [BitVec.slt, decide_eq_true_eq]
  split <;> rename_i h
  · exact (min_eq_left h.le).symm
  · exact (min_eq_right (not_lt.1 h)).symm

/-- A fold of the least word, at a word that is one of them and no larger than any. -/
theorem fold_minsi {n : ℕ} (f : Fin n → BitVec 32) (M w : BitVec 32) (c : Fin n) (hc : f c = w)
    (hM : w.toInt ≤ M.toInt) (hw : ∀ j, w.toInt ≤ (f j).toInt) : Finset.univ.fold IntOp.minsi M f = w := by
  apply BitVec.eq_of_toInt_eq
  rw [← Finset.fold_hom (op' := min) (m := BitVec.toInt) minsi_toInt]
  apply le_antisymm
  · exact (Finset.fold_min_le _).2 (Or.inr ⟨c, Finset.mem_univ _, by rw [hc]⟩)
  · exact (Finset.le_fold_min _).2 ⟨hM, fun j _ => hw j⟩

theorem fold_min_amin (f : Fin 512 → EReal) : Finset.univ.fold min (⊤ : EReal) f = f (Spec.amin f) := by
  apply le_antisymm
  · exact (Finset.fold_min_le _).2 (Or.inr ⟨_, Finset.mem_univ _, le_refl _⟩)
  · exact (Finset.le_fold_min _).2 ⟨le_top, fun j _ => (Spec.amin_spec f).1 j⟩

theorem toInt_ofNat_fin {n : ℕ} (hn : n ≤ 1024) (c : Fin n) : (BitVec.ofNat 32 c.val).toInt = c.val := by
  have := c.isLt
  rw [BitVec.toInt_eq_toNat_cond, BitVec.toNat_ofNat, Nat.mod_eq_of_lt (by omega), if_pos (by omega)]

/-- The least index of a least value, as a word. -/
theorem fold_first (f : Fin 512 → EReal) :
    Finset.univ.fold IntOp.minsi 2147483647#32 (fun c : Fin 512 => if f c = Finset.univ.fold min (⊤ : EReal) f then BitVec.ofNat 32 c.val else 512#32)
      = BitVec.ofNat 32 (Spec.amin f).val := by
  rw [fold_min_amin]
  have hlt := (Spec.amin f).isLt
  refine fold_minsi _ _ _ (Spec.amin f) (by rw [if_pos rfl]) ?_ fun j => ?_
  · rw [toInt_ofNat_fin (by norm_num)]
    have : (2147483647#32 : BitVec 32).toInt = 2147483647 := by decide
    omega
  · rw [toInt_ofNat_fin (by norm_num)]
    split
    · rename_i h
      rw [toInt_ofNat_fin (by norm_num)]
      exact_mod_cast (Spec.amin_spec f).2 j h
    · have : (512#32 : BitVec 32).toInt = 512 := by decide
      omega

/-- One at the index, zero elsewhere. -/
theorem onehot (x c : Fin 512) :
    (FloatOps.sitofp (F := Ideal) FTy.f32 (BitVec.setWidth 32 (IntOp.cmpi CmpIPredicate.eq (BitVec.ofNat 32 x.val) (BitVec.ofNat 32 c.val))) : EReal)
      = if x = c then 1 else 0 := by
  by_cases h : x = c
  · subst h
    rw [if_pos rfl, show IntOp.cmpi CmpIPredicate.eq (BitVec.ofNat 32 x.val) (BitVec.ofNat 32 x.val) = 1#1 by simp [IntOp.cmpi]]
    show (((BitVec.setWidth 32 1#1).toInt : ℝ) : EReal) = 1
    norm_num
  · have hne : BitVec.ofNat 32 x.val ≠ BitVec.ofNat 32 c.val := fun e => h (Fin.ext (by
      have := congrArg BitVec.toNat e
      simp only [BitVec.toNat_ofNat] at this
      have := x.isLt; have := c.isLt; omega))
    rw [if_neg h, show IntOp.cmpi CmpIPredicate.eq (BitVec.ofNat 32 x.val) (BitVec.ofNat 32 c.val) = 0#1 by
      show BitVec.ofBool (_ == _) = 0#1
      rw [beq_eq_false_iff_ne.2 hne]; rfl]
    show (((BitVec.setWidth 32 0#1).toInt : ℝ) : EReal) = 0
    norm_num

theorem pay15 (x : FVec Ideal S64x2048 .f32) (d : Fin 64) (s : Fin 2048) :
    k1_pay5 (F := Ideal) x (ix2 d s) = Spec.nrm Spec.c64 (fun d => x (ix2 d s)) d := by
  pointwise [k1_pay5]
  rfl

theorem pay17 (x : FVec Ideal S64x2048 .f32) (y : FVec Ideal S1x512x64 .f32) (c : Fin 512) (s : Fin 2048) :
    k1_pay7 (F := Ideal) x y (ix2 c s) =
      if Spec.dist (Spec.nrm Spec.c64 fun d => x (ix2 d s)) (fun c d => y (ix3 0 c d)) c =
        Finset.univ.fold min (⊤ : EReal) (Spec.dist (Spec.nrm Spec.c64 fun d => x (ix2 d s)) fun c d => y (ix3 0 c d))
      then BitVec.ofNat 32 c.val else 512#32 := by
  pointwise [k1_pay7, k1_pay6]
  simp only [pay15, Spec.pinf_eq]
  rfl

theorem pay11 (x : FVec Ideal S64x2048 .f32) (y : FVec Ideal S1x512x64 .f32) (d : Fin 64) (s : Fin 2048) :
    k1_pay1 (F := Ideal) (k1_pay6 (F := Ideal) y) (iota .tc S512x2048 32 [0] iota_S512x2048_d0_w32) (k1_pay7 (F := Ideal) x y) (ix2 d s)
      = Spec.near (Spec.nrm Spec.c64 fun d => x (ix2 d s)) (fun c d => y (ix3 0 c d)) d := by
  pointwise [k1_pay1, k1_pay6]
  simp only [pay17, fold_first, onehot, mul_ite, mul_one, mul_zero, Finset.sum_ite_eq', Finset.mem_univ, if_true]
  rfl

theorem pay12 (x : FVec Ideal S64x2048 .f32) (y : FVec Ideal S1x512x64 .f32) (d : Fin 64) (s : Fin 2048) :
    k1_pay2 (F := Ideal) (k1_pay6 (F := Ideal) y) (iota .tc S512x2048 32 [0] iota_S512x2048_d0_w32) (k1_pay7 (F := Ideal) x y) (ix3 0 d s)
      = Spec.near (Spec.nrm Spec.c64 fun d => x (ix2 d s)) (fun c d => y (ix3 0 c d)) d := by
  pointwise [k1_pay2]
  exact pay11 x y d s

theorem pay13 (j : S1x1.Idx) : k1_pay3 (F := Ideal) j = (0 : EReal) := by
  pointwise [k1_pay3]

theorem pay14 (x : FVec Ideal S64x2048 .f32) (y : FVec Ideal S1x512x64 .f32) (l : FVec Ideal S1x2048 .f32) (o : FVec Ideal S1x1 .f32) (j : S1x1.Idx) :
    k1_pay4 (F := Ideal) (k1_pay5 (F := Ideal) x) (k1_pay6 (F := Ideal) y) (iota .tc S512x2048 32 [0] iota_S512x2048_d0_w32) (k1_pay7 (F := Ideal) x y) l o j
      = o j + ∑ s : Fin 2048, Spec.err (Spec.nrm Spec.c64 fun d => x (ix2 d s)) (fun c d => y (ix3 0 c d)) * l (ix2 0 s) := by
  idx_vars j
  obtain rfl : j0 = 0 := Subsingleton.elim _ _
  obtain rfl : j1 = 0 := Subsingleton.elim _ _
  pointwise [k1_pay4]
  refine congrArg (fun a : EReal => o (ix2 0 0) + a) (Finset.sum_congr rfl fun s _ => ?_)
  refine congrArg (fun a : EReal => a * l (ix2 0 s)) (Finset.sum_congr rfl fun d _ => ?_)
  have h1 := pay11 x y d s
  have h2 := pay15 x d s
  exact (congrArg (fun a : EReal => (_ - a) * (_ - a)) h1).trans (congrArg (fun a : EReal => (a - _) * (a - _)) h2)

end Cert.KernelIdeal.Val
end
-- ==== Proof.KReg1.lean ====
module

public import proofs.«01_k».proof.Proof.KPay1

@[expose] public section

/-! The quantisation's grid: the codewords it leaves, and the loss it gathers. -/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- Key row `d` of head `h` in the array of projections. -/
def krow (h : Fin 16) (d : Fin 64) : Fin 4096 := ⟨1024 + (h.val * 64 + d.val), by omega⟩

/-- The codewords of the keys, head by head. -/
def khat (Y : FVec Ideal S4096x2048 .f32) (C : FVec Ideal S16x512x64 .f32) : FVec Ideal S16x64x2048 .f32 := fun j =>
  Spec.near (Spec.nrm Spec.c64 fun d => Y (ix2 (krow (j 0) d) (j 2))) (fun c d => C (ix3 (j 0) c d)) (j 1)

/-- The masked squared errors of all heads, added. -/
def lsum (Y : FVec Ideal S4096x2048 .f32) (C : FVec Ideal S16x512x64 .f32) (L : FVec Ideal S1x2048 .f32) : EReal :=
  ∑ h : Fin 16, ∑ s : Fin 2048, Spec.err (Spec.nrm Spec.c64 fun d => Y (ix2 (krow h d) s)) (fun c d => C (ix3 h c d)) * L (ix2 0 s)

variable (V : (c : Dev nD) → (b : Ref sig .tc) → Buf (Elt Ideal) ((c : Thread nD τ).loc b))

theorem idx1 : ∀ t : Fin cfg1.N, win1_0.index t = ![16 + t.val, 0] ∧ win1_1.index t = ![t.val, 0, 0] ∧ win1_2.index t = ![0, 0] ∧ win1_3.index t = ![t.val, 0, 0] ∧ win1_4.index t = ![0, 0] :=
  (by decide +kernel : ∀ t : Fin grid1.N, _)

theorem final1_4 (c : Dev nD) (j : S1x1.Idx) : (dat1 V c).arrAt 4 cfg1.N j = lsum (V c main_v4) (V c main_arg16) (V c main_arg2) := by
  have key : (dat1 V c).arrAt 4 cfg1.N = fun _ => lsum (V c main_v4) (V c main_arg16) (V c main_arg2) := by
    refine (dat1 V c).arrAt_eq_of_after_last 4 t1_15 (by decide +kernel) _ fun j => ?_
    blk_simp
    rw [after1_4, Pipeline.eq_sum_fin_of_reset_step_apply_last (fun n h => (outsAt1 V c n h).2) 16 (fun _ => 0) _
      (fun t h j => by rw [outsAt1_A V c t h]; frame_out; rw [pay14, pay13])
      (fun t h j => by rw [outsAt1_B V c t h]; frame_out; rw [pay14])
      (le_of_eq N_1) t1_15 rfl j, zero_add]
    refine Finset.sum_congr (M := EReal) (s₁ := (Finset.univ : Finset (Fin 16))) rfl fun t _ => Finset.sum_congr rfl fun s _ => ?_
    have e0 : ∀ d : Fin 64, iblk1 V c 0 t (ix2 d s) = V c main_v4 (ix2 (krow t d) s) := fun d => by
      blk_ext [iblk1, idx1 t, krow]
    have e1 : ∀ (cc : Fin 512) (d : Fin 64), iblk1 V c 1 t (ix3 0 cc d) = V c main_arg16 (ix3 t cc d) := fun cc d => by
      blk_ext [iblk1, idx1 t]
    have e2 : iblk1 V c 2 t (ix2 0 s) = V c main_arg2 (ix2 0 s) := by
      blk_ext [iblk1, idx1 t]
    rw [← funext e0, ← (funext fun cc => funext fun d => e1 cc d), ← e2]
  rw [key]

theorem final1_3 (c : Dev nD) : (dat1 V c).arrAt 3 cfg1.N = khat (V c main_v4) (V c main_arg16) := by
  refine (dat1 V c).arrAt_eq_of_covers 3 _ (by decide +kernel) fun t _ y => ?_
  blk_simp
  have ht : t.val < 16 := t.isLt
  have ho : (outsAt1 V c t.val t.isLt).1 = k1_pay2 (F := Ideal) (k1_pay6 (F := Ideal) (iblk1 V c 1 t)) (iota .tc S512x2048 32 [0] iota_S512x2048_d0_w32) (k1_pay7 (F := Ideal) (iblk1 V c 0 t) (iblk1 V c 1 t)) := by
    by_cases h0 : t.val % 16 = 0
    · rw [outsAt1_A V c t h0]; frame_out
    · rw [outsAt1_B V c t h0]; frame_out
  rw [after1_3, ho]
  idx_vars y
  obtain rfl : y0 = 0 := Subsingleton.elim _ _
  have hj : ((cfg1.win 3).blk t).view.emb (ix3 0 y1 y2) = (ix3 (⟨t.val, ht⟩ : Fin 16) y1 y2 : S16x64x2048.Idx) := by
    blk_ext [idx1 t]
  refine Eq.trans ?_ (congrArg (khat _ _) hj).symm
  refine (pay12 _ _ _ _).trans ?_
  have e0 : ∀ d : Fin 64, iblk1 V c 0 t (ix2 d y2) = V c main_v4 (ix2 (krow ⟨t.val, ht⟩ d) y2) := fun d => by
    blk_ext [iblk1, idx1 t, krow]
  have e1 : ∀ (cc : Fin 512) (d : Fin 64), iblk1 V c 1 t (ix3 0 cc d) = V c main_arg16 (ix3 ⟨t.val, ht⟩ cc d) := fun cc d => by
    blk_ext [iblk1, idx1 t]
  show _ = Spec.near (Spec.nrm Spec.c64 fun d => V c main_v4 (ix2 (krow ⟨t.val, ht⟩ d) y2)) (fun cc d => V c main_arg16 (ix3 ⟨t.val, ht⟩ cc d)) y1
  rw [← funext e0, ← (funext fun cc => funext fun d => e1 cc d)]

end Cert.KernelIdeal.Val
end
-- ==== Proof.KPay2.lean ====
module

public import proofs.«01_k».proof.Proof.Gen.KernelIdeal.Frame
public import proofs.«01_k».proof.Proof.SpecReal
public import Idealize.ShloMosaic.Lib.Pipeline.ValueKit

@[expose] public section

/-! The attention of one head and one half of the queries: what its two bodies compute. -/

set_option maxRecDepth 16384

noncomputable section

namespace Cert.KernelIdeal.Val

open Cert.KernelIdeal Cert.KernelIdeal.Gen Idealize.ShloMosaic Idealize.ShloMosaic.TcCoe Idealize.SL.Sem

/-- Row `d` of head `h` in part `k` of the array of projections. -/
def prow (k : Fin 4) (h : Fin 16) (d : Fin 64) : Fin 4096 := ⟨k.val * 1024 + (h.val * 64 + d.val), by omega⟩
/-- A query of the first half. -/
def half0 (s : Fin 1024) : Fin 2048 := ⟨s.val, by omega⟩
/-- A query of the second half. -/
def half1 (s : Fin 1024) : Fin 2048 := ⟨1024 + s.val, by omega⟩
/-- A key of the first half. -/
def key0 (s : Fin 1024) : Fin 2048 := ⟨s.val, by omega⟩

/-- The named mask is minus infinity. -/
theorem mask_eq : (Named.named (F := Ideal) κ "mask" (φ := .f32) 4048155338#32 : EReal) = ⊥ := by
  rfl

/-- A query with its bias, from its column. -/
def qcol (q : Fin 64 → EReal) (xu : Fin 64 → EReal) (d : Fin 64) : EReal := Spec.nrm Spec.c64 q d + xu d

/-- The attention of one query: its column, the cached keys and values, the codewords, the values, what the mask multiplies, the gate. -/
def headAttn {n : ℕ} (q xu : Fin 64 → EReal) (xk xv : Fin 256 → Fin 64 → EReal) (kh v : Fin 64 → Fin n → EReal) (pen : Fin n → EReal) (g : EReal) (d : Fin 64) : EReal :=
  Spec.attn (fun t : Fin 256 => (∑ d : Fin 64, xk t d * qcol q xu d) * Spec.c8th)
    (fun t : Fin n => (∑ d : Fin 64, kh d t * qcol q xu d) * Spec.c8th + pen t * ⊥) (fun t => xv t d) (fun t => v d t) * g

theorem headAttn_congr {n : ℕ} {q q' xu xu' : Fin 64 → EReal} {xk xk' xv xv' : Fin 256 → Fin 64 → EReal} {kh kh' v v' : Fin 64 → Fin n → EReal}
    {pen pen' : Fin n → EReal} {g g' : EReal} (d : Fin 64) (h1 : ∀ d, q d = q' d) (h2 : ∀ d, xu d = xu' d) (h3 : ∀ t d, xk t d = xk' t d)
    (h4 : ∀ t d, xv t d = xv' t d) (h5 : ∀ d t, kh d t = kh' d t) (h6 : ∀ d t, v d t = v' d t) (h7 : ∀ t, pen t = pen' t) (h8 : g = g') :
    headAttn q xu xk xv kh v pen g d = headAttn q' xu' xk' xv' kh' v' pen' g' d := by
  obtain rfl : q = q' := funext h1
  obtain rfl : xu = xu' := funext h2
  obtain rfl : xk = xk' := funext fun t => funext (h3 t)
  obtain rfl : xv = xv' := funext fun t => funext (h4 t)
  obtain rfl : kh = kh' := funext fun t => funext (h5 t)
  obtain rfl : v = v' := funext fun t => funext (h6 t)
  obtain rfl : pen = pen' := funext h7
  obtain rfl := h8
  rfl

theorem pay22 (x : FVec Ideal S64x1024 .f32) (y : FVec Ideal S1x64x1 .f32) (d : Fin 64) (s : Fin 1024) :
    k2_pay2 (F := Ideal) x y (ix2 d s) = qcol (fun d => x (ix2 d s)) (fun d => y (ix3 0 d 0)) d := by
  pointwise [k2_pay2]
  rfl

theorem pay26 (x : FVec Ideal S64x1024 .f32) (y : FVec Ideal S1x64x1 .f32) (k : FVec Ideal S1x1x256x64 .f32) (t : Fin 256) (s : Fin 1024) :
    k2_pay6 (F := Ideal) x y k (ix2 t s) = ∑ d : Fin 64, k (ix4 0 0 t d) * qcol (fun d => x (ix2 d s)) (fun d => y (ix3 0 d 0)) d := by
  pointwise [k2_pay6]
  simp only [pay22]

theorem pay21 (pen : FVec Ideal S1024x1024 .f32) (q : FVec Ideal S64x1024 .f32) (xu : FVec Ideal S1x64x1 .f32) (xk xv : FVec Ideal S1x1x256x64 .f32)
    (kh : FVec Ideal S1x64x1024 .f32) (v : FVec Ideal S64x1024 .f32) (g : FVec Ideal S64x1024 .f32) (d : Fin 64) (s : Fin 1024) :
    k2_pay1 (F := Ideal) (k2_pay2 (F := Ideal) q xu) (k2_pay3 (F := Ideal) xv) (k2_pay4 (F := Ideal) kh) (k2_pay5 (F := Ideal) v) (k2_pay6 (F := Ideal) q xu xk) pen g (ix3 0 d s)
      = headAttn (fun d => q (ix2 d s)) (fun d => xu (ix3 0 d 0)) (fun t d => xk (ix4 0 0 t d)) (fun t d => xv (ix4 0 0 t d)) (fun d t => kh (ix3 0 d t))
          (fun d t => v (ix2 d t)) (fun t => pen (ix2 t s)) (g (ix2 d s)) d := by
  have h4 : ∀ (d : Fin 64) (t : Fin 1024), k2_pay4 (F := Ideal) kh (ix2 d t) = kh (ix3 0 d t) := fun d t => by pointwise [k2_pay4]
  have h3 : ∀ (t : Fin 256) (d : Fin 64), k2_pay3 (F := Ideal) xv (ix2 t d) = xv (ix4 0 0 t d) := fun d t => by pointwise [k2_pay3]
  have h5 : ∀ (d : Fin 64) (t : Fin 1024), k2_pay5 (F := Ideal) v (ix2 d t) = v (ix2 d t) := fun d t => by pointwise [k2_pay5]
  generalize k2_pay4 (F := Ideal) kh = kh' at h4 ⊢
  generalize k2_pay3 (F := Ideal) xv = xv' at h3 ⊢
  generalize k2_pay5 (F := Ideal) v = v' at h5 ⊢
  have h2 := pay22 q xu
  have h6 := pay26 q xu xk
  generalize k2_pay2 (F := Ideal) q xu = q' at h2 ⊢
  generalize k2_pay6 (F := Ideal) q xu xk = s' at h6 ⊢
  pointwise [k2_pay1]
  simp only [h2, h3, h4, h5, h6, mask_eq, Spec.ninf_eq]
  rfl

theorem pay32 (x : FVec Ideal S64x1024 .f32) (y : FVec Ideal S1x64x1 .f32) (d : Fin 64) (s : Fin 1024) :
    k3_pay2 (F := Ideal) x y (ix2 d s) = qcol (fun d => x (ix2 d s)) (fun d => y (ix3 0 d 0)) d := by
  pointwise [k3_pay2]
  rfl

theorem pay36 (x : FVec Ideal S64x1024 .f32) (y : FVec Ideal S1x64x1 .f32) (k : FVec Ideal S1x1x256x64 .f32) (t : Fin 256) (s : Fin 1024) :
    k3_pay6 (F := Ideal) x y k (ix2 t s) = ∑ d : Fin 64, k (ix4 0 0 t d) * qcol (fun d => x (ix2 d s)) (fun d => y (ix3 0 d 0)) d := by
  pointwise [k3_pay6]
  simp only [pay32]

theorem pay31 (pen : FVec Ideal S2048x1024 .f32) (q : FVec Ideal S64x1024 .f32) (xu : FVec Ideal S1x64x1 .f32) (xk xv : FVec Ideal S1x1x256x64 .f32)
    (kh : FVec Ideal S1x64x2048 .f32) (v : FVec Ideal S64x2048 .f32) (g : FVec Ideal S64x1024 .f32) (d : Fin 64) (s : Fin 1024) :
    k3_pay1 (F := Ideal) (k3_pay2 (F := Ideal) q xu) (k3_pay3 (F := Ideal) xv) (k3_pay4 (F := Ideal) kh) (k3_pay5 (F := Ideal) v) (k3_pay6 (F := Ideal) q xu xk) pen g (ix3 0 d s)
      = headAttn (fun d => q (ix2 d s)) (fun d => xu (ix3 0 d 0)) (fun t d => xk (ix4 0 0 t d)) (fun t d => xv (ix4 0 0 t d)) (fun d t => kh (ix3 0 d t))
          (fun d t => v (ix2 d t)) (fun t => pen (ix2 t s)) (g (ix2 d s)) d := by
  have h4 : ∀ (d : Fin 64) (t : Fin 2048), k3_pay4 (F := Ideal) kh (ix2 d t) = kh (ix3 0 d t) := fun d t => by pointwise [k3_pay4]
  have h3 : ∀ (t : Fin 256) (d : Fin 64), k3_pay3 (F := Ideal) xv (ix2 t d) = xv (ix4 0 0 t d) := fun d t => by pointwise [k3_pay3]
  have h5 : ∀ (d : Fin 64) (t : Fin 2048), k3_pay5 (F := Ideal) v (ix2 d t) = v (ix2 d t) := fun d t => by pointwise [k3_pay5]
  generalize k3_pay4 (F := Ideal) kh = kh' at h4 ⊢
  generalize k3_pay3 (F := Ideal) xv = xv' at h3 ⊢
  generalize k3_pay5 (F := Ideal) v = v' at h5 ⊢
  have h2 := pay32 q xu
  have h6 := pay36 q xu xk
  generalize k3_pay2 (F := Ideal) q xu = q' at h2 ⊢
  generalize k3_pay6 (F := Ideal) q xu xk = s' at h6 ⊢
  pointwise [k3_pay1]
  simp only [h2, h3, h4, h5, h6, mask_eq, Spec.ninf_eq]
  rfl

end Cert.KernelIdeal.Val
end
-- ==== Proof.KReg2.lean ====
module

public import proofs.«01_k».proof.Proof.KPay2

@[expose] public section

/-! The attention's first grid: the first half of the queries. -/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx2 : ∀ t : Fin cfg2.N, (win2_0.index t = ![0, 0] ∧ win2_1.index t = ![t.val, 0] ∧ win2_2.index t = ![t.val, 0, 0] ∧ win2_3.index t = ![0, t.val, 0, 0] ∧ win2_4.index t = ![0, t.val, 0, 0]) ∧
    win2_5.index t = ![t.val, 0, 0] ∧ win2_6.index t = ![32 + t.val, 0] ∧ win2_7.index t = ![48 + t.val, 0] ∧ win2_8.index t = ![t.val, 0, 0] :=
  (by decide +kernel : ∀ t : Fin grid2.N, _)

/-- The gated attention of the first half of the queries. -/
def att2 (P : FVec Ideal S1024x1024 .f32) (Y : FVec Ideal S4096x2048 .f32) (U : FVec Ideal S16x64x1 .f32) (K W : FVec Ideal S1x16x256x64 .f32) (C : FVec Ideal S16x64x2048 .f32) :
    FVec Ideal S16x64x1024 .f32 := fun j =>
  let h : Fin 16 := j 0
  let d : Fin 64 := j 1
  let s : Fin 1024 := j 2
  headAttn (n := 1024) (fun d => Y (ix2 (prow 0 h d) (half0 s))) (fun d => U (ix3 h d 0)) (fun t d => K (ix4 0 h t d)) (fun t d => W (ix4 0 h t d))
    (fun d t => C (ix3 h d (key0 t))) (fun d t => Y (ix2 (prow 2 h d) (key0 t))) (fun t => P (ix2 t s)) (Y (ix2 (prow 3 h d) (half0 s))) d

set_option maxHeartbeats 2000000 in
theorem final2 (c : Dev nD) : (dat2 V c).arrAt 8 cfg2.N = att2 (V c main_v18) (V c main_v4) (V c main_v6) (V c main_arg3) (V c main_arg4) (V c main_v5_0) := by
  refine (dat2 V c).arrAt_eq_of_covers 8 _ (by decide +kernel) fun t _ y => ?_
  blk_simp
  rw [after2_8]; frame_out
  idx_vars y
  have ht : t.val < 16 := t.isLt
  obtain rfl : y0 = 0 := Subsingleton.elim _ _
  have hj : ((cfg2.win 8).blk t).view.emb (ix3 0 y1 y2) = (ix3 (⟨t.val, ht⟩ : Fin 16) y1 y2 : S16x64x1024.Idx) := by
    blk_ext [idx2 t]
  refine Eq.trans ?_ (congrArg (att2 _ _ _ _ _ _) hj).symm
  refine (pay21 _ _ _ _ _ _ _ _ _ _).trans ?_
  show _ = headAttn (n := 1024) (fun d => V c main_v4 (ix2 (prow 0 ⟨t.val, ht⟩ d) (half0 y2))) (fun d => V c main_v6 (ix3 (⟨t.val, ht⟩ : Fin 16) d 0))
    (fun r d => V c main_arg3 (ix4 0 (⟨t.val, ht⟩ : Fin 16) r d)) (fun r d => V c main_arg4 (ix4 0 (⟨t.val, ht⟩ : Fin 16) r d))
    (fun d r => V c main_v5_0 (ix3 (⟨t.val, ht⟩ : Fin 16) d (key0 r))) (fun d r => V c main_v4 (ix2 (prow 2 ⟨t.val, ht⟩ d) (key0 r)))
    (fun r => V c main_v18 (ix2 r y2)) (V c main_v4 (ix2 (prow 3 ⟨t.val, ht⟩ y1) (half0 y2))) y1
  refine headAttn_congr _ (fun d => ?_) (fun d => ?_) (fun r d => ?_) (fun r d => ?_) (fun d r => ?_) (fun d r => ?_) (fun r => ?_) ?_
  · blk_ext [iblk2, idx2 t, prow, half0]
  · blk_ext [iblk2, idx2 t]
  · blk_ext [iblk2, idx2 t]
  · blk_ext [iblk2, idx2 t]
  · blk_ext [iblk2, idx2 t, key0]
  · blk_ext [iblk2, idx2 t, prow, key0]
  · blk_ext [iblk2, idx2 t]
  · blk_ext [iblk2, idx2 t, prow, half0]

end Cert.KernelIdeal.Val
end
-- ==== Proof.KReg3.lean ====
module

public import proofs.«01_k».proof.Proof.KPay2

@[expose] public section

/-! The attention's second grid: the second half of the queries. -/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx3 : ∀ t : Fin cfg3.N, (win3_0.index t = ![0, 0] ∧ win3_1.index t = ![t.val, 1] ∧ win3_2.index t = ![t.val, 0, 0] ∧ win3_3.index t = ![0, t.val, 0, 0] ∧ win3_4.index t = ![0, t.val, 0, 0]) ∧
    win3_5.index t = ![t.val, 0, 0] ∧ win3_6.index t = ![32 + t.val, 0] ∧ win3_7.index t = ![48 + t.val, 1] ∧ win3_8.index t = ![t.val, 0, 0] :=
  (by decide +kernel : ∀ t : Fin grid3.N, _)

/-- The gated attention of the second half of the queries. -/
def att3 (P : FVec Ideal S2048x1024 .f32) (Y : FVec Ideal S4096x2048 .f32) (U : FVec Ideal S16x64x1 .f32) (K W : FVec Ideal S1x16x256x64 .f32) (C : FVec Ideal S16x64x2048 .f32) :
    FVec Ideal S16x64x1024 .f32 := fun j =>
  let h : Fin 16 := j 0
  let d : Fin 64 := j 1
  let s : Fin 1024 := j 2
  headAttn (n := 2048) (fun d => Y (ix2 (prow 0 h d) (half1 s))) (fun d => U (ix3 h d 0)) (fun t d => K (ix4 0 h t d)) (fun t d => W (ix4 0 h t d))
    (fun d t => C (ix3 h d (t))) (fun d t => Y (ix2 (prow 2 h d) (t))) (fun t => P (ix2 t s)) (Y (ix2 (prow 3 h d) (half1 s))) d

set_option maxHeartbeats 2000000 in
theorem final3 (c : Dev nD) : (dat3 V c).arrAt 8 cfg3.N = att3 (V c main_v29) (V c main_v4) (V c main_v6) (V c main_arg3) (V c main_arg4) (V c main_v5_0) := by
  refine (dat3 V c).arrAt_eq_of_covers 8 _ (by decide +kernel) fun t _ y => ?_
  blk_simp
  rw [after3_8]; frame_out
  idx_vars y
  have ht : t.val < 16 := t.isLt
  obtain rfl : y0 = 0 := Subsingleton.elim _ _
  have hj : ((cfg3.win 8).blk t).view.emb (ix3 0 y1 y2) = (ix3 (⟨t.val, ht⟩ : Fin 16) y1 y2 : S16x64x1024.Idx) := by
    blk_ext [idx3 t]
  refine Eq.trans ?_ (congrArg (att3 _ _ _ _ _ _) hj).symm
  refine (pay31 _ _ _ _ _ _ _ _ _ _).trans ?_
  show _ = headAttn (n := 2048) (fun d => V c main_v4 (ix2 (prow 0 ⟨t.val, ht⟩ d) (half1 y2))) (fun d => V c main_v6 (ix3 (⟨t.val, ht⟩ : Fin 16) d 0))
    (fun r d => V c main_arg3 (ix4 0 (⟨t.val, ht⟩ : Fin 16) r d)) (fun r d => V c main_arg4 (ix4 0 (⟨t.val, ht⟩ : Fin 16) r d))
    (fun d r => V c main_v5_0 (ix3 (⟨t.val, ht⟩ : Fin 16) d r)) (fun d r => V c main_v4 (ix2 (prow 2 ⟨t.val, ht⟩ d) r))
    (fun r => V c main_v29 (ix2 r y2)) (V c main_v4 (ix2 (prow 3 ⟨t.val, ht⟩ y1) (half1 y2))) y1
  refine headAttn_congr _ (fun d => ?_) (fun d => ?_) (fun r d => ?_) (fun r d => ?_) (fun d r => ?_) (fun d r => ?_) (fun r => ?_) ?_
  · blk_ext [iblk3, idx3 t, prow, half1]
  · blk_ext [iblk3, idx3 t]
  · blk_ext [iblk3, idx3 t]
  · blk_ext [iblk3, idx3 t]
  · blk_ext [iblk3, idx3 t]
  · blk_ext [iblk3, idx3 t, prow]
  · blk_ext [iblk3, idx3 t]
  · blk_ext [iblk3, idx3 t, prow, half1]

end Cert.KernelIdeal.Val
end
-- ==== Proof.KReg4.lean ====
module

public import proofs.«01_k».proof.Proof.KPay2

@[expose] public section

/-! The last grid: the gated heads, one below another, times the last weights. -/

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- One head's plane. -/
def plane (X : FVec Ideal S16x64x256 .f32) (n : Fin 16) : FVec Ideal S64x256 .f32 := fun i => X (ix3 n (i 0) (i 1))

theorem rect_at (n : Fin 16) (h) (a : Fin 64) (b : Fin 256) :
    (Rect.unit (s := S16x64x256) ![n.val, 0, 0] S1x64x256.size h).idx (ix3 (0 : Fin 1) a b : S1x64x256.Idx) = (ix3 n a b : S16x64x256.Idx) := by
  funext k
  apply Fin.ext
  match k with
  | ⟨0, _⟩ => show n.val + 1 * 0 = n.val; omega
  | ⟨1, _⟩ => show 0 + 1 * a.val = a.val; omega
  | ⟨2, _⟩ => show 0 + 1 * b.val = b.val; omega

theorem piece_at (Z : FVec Ideal S1x64x256 .f32) (a : Fin 64) (b : Fin 256) :
    shapeCast S64x256 Z shapeCasts_S1x64x256_S64x256 (ix2 a b) = Z (ix3 0 a b) := by
  pointwise

theorem piece (X : FVec Ideal S16x64x256 .f32) (n : Fin 16) (h) :
    shapeCast S64x256 (View.ld (Val := Elt Ideal) (e' := .f32) X (Rect.unit (s := S16x64x256) ![n.val, 0, 0] S1x64x256.size h)) shapeCasts_S1x64x256_S64x256 = plane X n := by
  funext y
  obtain ⟨y0, y1, rfl⟩ : ∃ (a : Fin 64) (b : Fin 256), y = ix2 a b := ⟨y 0, y 1, by funext k; match k with | ⟨0, _⟩ => rfl | ⟨1, _⟩ => rfl⟩
  exact (piece_at _ y0 y1).trans (congrArg X (rect_at n h y0 y1))

theorem stack (X : FVec Ideal S16x64x256 .f32) (i : Fin 1024) (y : Fin 256) :
    k4_pay1 (F := Ideal) (k4_pay3 (F := Ideal) (View.ld X r4_0)) (k4_pay4 (F := Ideal) (View.ld X r4_1)) (k4_pay5 (F := Ideal) (View.ld X r4_2)) (k4_pay6 (F := Ideal) (View.ld X r4_3)) (k4_pay7 (F := Ideal) (View.ld X r4_4)) (k4_pay8 (F := Ideal) (View.ld X r4_5)) (k4_pay9 (F := Ideal) (View.ld X r4_6)) (k4_pay10 (F := Ideal) (View.ld X r4_7)) (k4_pay11 (F := Ideal) (View.ld X r4_8)) (k4_pay12 (F := Ideal) (View.ld X r4_9)) (k4_pay13 (F := Ideal) (View.ld X r4_10)) (View.ld X r4_11) (View.ld X r4_12) (View.ld X r4_13) (View.ld X r4_14) (View.ld X r4_15) (ix2 i y) = X (ix3 (Spec.hd i) (Spec.hc i) y) := by
  refine Eq.trans ?_ (concatenate_ofFn_apply (t := S1024x256) (s₁ := S64x256) 0 (plane X) concatenates_S64x256_S64x256_S64x256_S64x256_S64x256_S64x256_S64x256_S64x256_S64x256_S64x256_S64x256_S64x256_S64x256_S64x256_S64x256_S64x256_S1024x256_d0 rfl 64 rfl (ix2 i y) (Spec.hd i) rfl (ix2 (Spec.hc i) y) rfl (Fin.forall_fin_two.2 ⟨fun h => absurd rfl h, fun _ => rfl⟩))
  unfold k4_pay3 k4_pay4 k4_pay5 k4_pay6 k4_pay7 k4_pay8 k4_pay9 k4_pay10 k4_pay11 k4_pay12 k4_pay13 k4_pay1
  dsimp only
  have e0 : shapeCast S64x256 (View.ld (Val := Elt Ideal) (e' := .f32) X r4_0) shapeCasts_S1x64x256_S64x256 = plane X 0 := piece X 0 inb_S16x64x256_S1x64x256_0_0_0
  have e1 : shapeCast S64x256 (View.ld (Val := Elt Ideal) (e' := .f32) X r4_1) shapeCasts_S1x64x256_S64x256 = plane X 1 := piece X 1 inb_S16x64x256_S1x64x256_1_0_0
  have e2 : shapeCast S64x256 (View.ld (Val := Elt Ideal) (e' := .f32) X r4_2) shapeCasts_S1x64x256_S64x256 = plane X 2 := piece X 2 inb_S16x64x256_S1x64x256_2_0_0
  have e3 : shapeCast S64x256 (View.ld (Val := Elt Ideal) (e' := .f32) X r4_3) shapeCasts_S1x64x256_S64x256 = plane X 3 := piece X 3 inb_S16x64x256_S1x64x256_3_0_0
  have e4 : shapeCast S64x256 (View.ld (Val := Elt Ideal) (e' := .f32) X r4_4) shapeCasts_S1x64x256_S64x256 = plane X 4 := piece X 4 inb_S16x64x256_S1x64x256_4_0_0
  have e5 : shapeCast S64x256 (View.ld (Val := Elt Ideal) (e' := .f32) X r4_5) shapeCasts_S1x64x256_S64x256 = plane X 5 := piece X 5 inb_S16x64x256_S1x64x256_5_0_0
  have e6 : shapeCast S64x256 (View.ld (Val := Elt Ideal) (e' := .f32) X r4_6) shapeCasts_S1x64x256_S64x256 = plane X 6 := piece X 6 inb_S16x64x256_S1x64x256_6_0_0
  have e7 : shapeCast S64x256 (View.ld (Val := Elt Ideal) (e' := .f32) X r4_7) shapeCasts_S1x64x256_S64x256 = plane X 7 := piece X 7 inb_S16x64x256_S1x64x256_7_0_0
  have e8 : shapeCast S64x256 (View.ld (Val := Elt Ideal) (e' := .f32) X r4_8) shapeCasts_S1x64x256_S64x256 = plane X 8 := piece X 8 inb_S16x64x256_S1x64x256_8_0_0
  have e9 : shapeCast S64x256 (View.ld (Val := Elt Ideal) (e' := .f32) X r4_9) shapeCasts_S1x64x256_S64x256 = plane X 9 := piece X 9 inb_S16x64x256_S1x64x256_9_0_0
  have e10 : shapeCast S64x256 (View.ld (Val := Elt Ideal) (e' := .f32) X r4_10) shapeCasts_S1x64x256_S64x256 = plane X 10 := piece X 10 inb_S16x64x256_S1x64x256_10_0_0
  have e11 : shapeCast S64x256 (View.ld (Val := Elt Ideal) (e' := .f32) X r4_11) shapeCasts_S1x64x256_S64x256 = plane X 11 := piece X 11 inb_S16x64x256_S1x64x256_11_0_0
  have e12 : shapeCast S64x256 (View.ld (Val := Elt Ideal) (e' := .f32) X r4_12) shapeCasts_S1x64x256_S64x256 = plane X 12 := piece X 12 inb_S16x64x256_S1x64x256_12_0_0
  have e13 : shapeCast S64x256 (View.ld (Val := Elt Ideal) (e' := .f32) X r4_13) shapeCasts_S1x64x256_S64x256 = plane X 13 := piece X 13 inb_S16x64x256_S1x64x256_13_0_0
  have e14 : shapeCast S64x256 (View.ld (Val := Elt Ideal) (e' := .f32) X r4_14) shapeCasts_S1x64x256_S64x256 = plane X 14 := piece X 14 inb_S16x64x256_S1x64x256_14_0_0
  have e15 : shapeCast S64x256 (View.ld (Val := Elt Ideal) (e' := .f32) X r4_15) shapeCasts_S1x64x256_S64x256 = plane X 15 := piece X 15 inb_S16x64x256_S1x64x256_15_0_0
  rw [e0, e1, e2, e3, e4, e5, e6, e7, e8, e9, e10, e11, e12, e13, e14, e15]
  rfl

theorem pay42 (A : FVec Ideal S1024x256 .f32) (B : FVec Ideal S1024x1024 .f32) (s : Fin 256) (e : Fin 1024) :
    k4_pay2 (F := Ideal) A B (ix2 s e) = ∑ x : Fin 1024, A (ix2 x s) * B (ix2 x e) := by
  unfold k4_pay2
  pointwise

/-- The gated heads times the last weights, at one place. -/
def last4At (G : FVec Ideal S16x64x2048 .f32) (B : FVec Ideal S1024x1024 .f32) (s : Fin 2048) (e : Fin 1024) : EReal :=
  ∑ x : Fin 1024, G (ix3 (Spec.hd x) (Spec.hc x) s) * B (ix2 x e)

/-- The gated heads times the last weights. -/
def last4 (G : FVec Ideal S16x64x2048 .f32) (B : FVec Ideal S1024x1024 .f32) : FVec Ideal S2048x1024 .f32 := fun j => last4At G B (j 0) (j 1)

variable (V : (c : Dev nD) → (b : Ref sig .tc) → Buf (Elt Ideal) ((c : Thread nD τ).loc b))

theorem idx4 : ∀ t : Fin cfg4.N, win4_0.index t = ![0, 0, t.val] ∧ win4_1.index t = ![0, 0] ∧ win4_2.index t = ![t.val, 0] :=
  (by decide +kernel : ∀ t : Fin grid4.N, _)

set_option maxHeartbeats 1000000 in
theorem final4 (c : Dev nD) : (dat4 V c).arrAt 2 cfg4.N = last4 (V c main_v31) (V c main_arg14) := by
  refine (dat4 V c).arrAt_eq_of_covers 2 _ (by decide +kernel) fun t _ y => ?_
  blk_simp
  rw [after4_2]; unfold out4_2
  generalize hA : iblk4 V c 0 t = A
  generalize hB : iblk4 V c 1 t = B
  frame_out
  idx_vars y
  have ht : t.val < 8 := t.isLt
  have hj : ((cfg4.win 2).blk t).view.emb (ix2 y0 y1) = (ix2 (⟨t.val * 256 + y0.val, by omega⟩ : Fin 2048) y1 : S2048x1024.Idx) := by
    blk_ext [idx4 t]
  refine Eq.trans ?_ (congrArg (last4 _ _) hj).symm
  refine (pay42 _ _ _ _).trans ?_
  show _ = last4At (V c main_v31) (V c main_arg14) (⟨t.val * 256 + y0.val, by omega⟩ : Fin 2048) y1
  refine Finset.sum_congr rfl fun x _ => ?_
  refine congrArg₂ (fun a b : EReal => a * b) ((stack A x y0).trans ?_) ?_
  · rw [← hA]; blk_ext [iblk4, idx4 t, Spec.hd, Spec.hc]
  · rw [← hB]; blk_ext [iblk4, idx4 t]

end Cert.KernelIdeal.Val
end
-- ==== Proof.SpecAttn.lean ====
module

public import proofs.«01_k».proof.Proof.SpecReal

@[expose] public section

/-! The weighted sum of the values: over a prefix of the keys when the rest are masked; and a softmax over the two
lists of keys laid end to end. -/

set_option maxRecDepth 16384

noncomputable section

namespace Cert.Spec

open Idealize.ShloMosaic

theorem exp_bot_sub (a : EReal) : Ideal.exp (⊥ - a) = 0 := by
  rw [sub_eq_add_neg, EReal.bot_add]; rfl

/-- A sum over `n` places of which those past `k` are nothing. -/
theorem sum_castLE {k n : ℕ} (h : k ≤ n) (f : Fin n → EReal) (hf : ∀ i : Fin n, k ≤ i.val → f i = 0) :
    ∑ i, f i = ∑ i : Fin k, f (Fin.castLE h i) := by
  symm
  refine Finset.sum_of_injOn (Fin.castLE h) (fun a _ b _ e => Fin.castLE_injective h e) (fun _ _ => Finset.mem_coe.2 (Finset.mem_univ _)) ?_ (fun _ _ => rfl)
  intro i _ hi
  refine hf i (Nat.le_of_not_lt fun hl => hi ⟨⟨i.val, hl⟩, Finset.mem_coe.2 (Finset.mem_univ _), rfl⟩)

theorem sup_castLE {k n : ℕ} (h : k ≤ n) (f : Fin n → EReal) (hf : ∀ i : Fin n, k ≤ i.val → f i = ⊥) :
    Finset.univ.sup f = Finset.univ.sup fun i : Fin k => f (Fin.castLE h i) := by
  apply le_antisymm
  · refine Finset.sup_le fun i _ => ?_
    by_cases hi : k ≤ i.val
    · rw [hf i hi]; exact bot_le
    · exact Finset.le_sup (f := fun i : Fin k => f (Fin.castLE h i)) (Finset.mem_univ ⟨i.val, Nat.lt_of_not_le hi⟩)
  · exact Finset.sup_le fun i _ => Finset.le_sup (f := f) (Finset.mem_univ _)

/-- The masked keys past `k` may be left out. -/
theorem attn_castLE {m k n : ℕ} (h : k ≤ n) (a : Fin m → EReal) (c : Fin n → EReal) (u : Fin m → EReal) (v : Fin n → EReal)
    (hc : ∀ i : Fin n, k ≤ i.val → c i = ⊥) :
    attn a c u v = attn a (fun i : Fin k => c (Fin.castLE h i)) u (fun i => v (Fin.castLE h i)) := by
  have ht : top a c = top a fun i : Fin k => c (Fin.castLE h i) := by unfold top; rw [sup_castLE h c hc]
  unfold attn
  rw [← ht, sum_castLE h (fun t => v t * Ideal.exp (c t - top a c)) fun i hi => by rw [hc i hi, exp_bot_sub, mul_zero],
    sum_castLE h (fun t => Ideal.exp (c t - top a c)) fun i hi => by rw [hc i hi, exp_bot_sub]]

/-- A positive real factor goes through a sum. -/
theorem sum_mul_pos {ι : Type*} (s : Finset ι) (f : ι → EReal) {c : ℝ} (hc : 0 < c) :
    ∑ i ∈ s, f i * (c : EReal) = (∑ i ∈ s, f i) * (c : EReal) := by
  classical
  induction s using Finset.induction_on with
  | empty => simp
  | insert a t ha ih =>
    rw [Finset.sum_insert ha, Finset.sum_insert ha, ih,
      EReal.right_distrib_of_nonneg_of_ne_top (by exact_mod_cast hc.le) (EReal.coe_ne_top c)]

theorem exp_pos_of_isR {a : EReal} (h : IsR a) : 0 < Ideal.exp a := by
  obtain ⟨r, rfl⟩ := h
  show (0 : EReal) < (Real.exp r : EReal)
  exact_mod_cast Real.exp_pos r
theorem exp_nonneg (a : EReal) : 0 ≤ Ideal.exp a := by
  induction a with
  | bot => exact le_refl _
  | top => exact le_top
  | coe r => show (0 : EReal) ≤ (Real.exp r : EReal); exact_mod_cast (Real.exp_pos r).le
theorem exp_isR {a : EReal} (h : a ≠ ⊤) : IsR (Ideal.exp a) := by
  induction a with
  | bot => exact ⟨0, rfl⟩
  | top => exact absurd rfl h
  | coe r => exact ⟨Real.exp r, rfl⟩

/-- Softmax of the two lists' scores, then the weighted sum: the same number, when the first list's scores are real
and the second's are not plus infinity. -/
theorem soft_eq {m n : ℕ} (hm : 0 < m) (a : Fin m → EReal) (c : Fin n → EReal) (u : Fin m → EReal) (v : Fin n → EReal)
    (ha : ∀ i, IsR (a i)) (hc : ∀ i, c i ≠ ⊤) :
    ∑ t, Ideal.div (Ideal.exp (a t - top a c)) (∑ t, Ideal.exp (a t - top a c) + ∑ t, Ideal.exp (c t - top a c)) * u t +
      ∑ t, Ideal.div (Ideal.exp (c t - top a c)) (∑ t, Ideal.exp (a t - top a c) + ∑ t, Ideal.exp (c t - top a c)) * v t
      = attn a c u v := by
  have htop : IsR (top a c) := by
    refine .of_ne ⟨?_, ?_⟩
    · have h1 : Finset.univ.sup a < ⊤ := (Finset.sup_lt_iff (by exact bot_lt_top)).2 fun i _ => lt_top_iff_ne_top.2 (ha i).ne_top
      have h2 : Finset.univ.sup c < ⊤ := (Finset.sup_lt_iff (by exact bot_lt_top)).2 fun i _ => lt_top_iff_ne_top.2 (hc i)
      exact (max_lt h1 h2).ne
    · intro e
      have h1 : a ⟨0, hm⟩ ≤ top a c := (Finset.le_sup (f := a) (Finset.mem_univ _)).trans (le_max_left _ _)
      rw [e, le_bot_iff] at h1
      exact (ha _).ne_bot h1
  have ea : ∀ t, IsR (Ideal.exp (a t - top a c)) := fun t => exp_isR ((ha t).sub htop).ne_top
  have ec : ∀ t, IsR (Ideal.exp (c t - top a c)) := fun t => exp_isR (by
    by_cases hb : c t = ⊥
    · rw [hb, sub_eq_add_neg, EReal.bot_add]; exact bot_ne_top
    · exact ((IsR.of_ne ⟨hc t, hb⟩).sub htop).ne_top)
  obtain ⟨D, hD⟩ := (IsR.sum Finset.univ ea).add (IsR.sum Finset.univ ec)
  have hpos : 0 < D := by
    have h1 : (0 : EReal) < ∑ t, Ideal.exp (a t - top a c) :=
      lt_of_lt_of_le (exp_pos_of_isR ((ha ⟨0, hm⟩).sub htop))
        (Finset.single_le_sum (f := fun t => Ideal.exp (a t - top a c)) (fun i _ => exp_nonneg _) (Finset.mem_univ _))
    have h2 : (0 : EReal) ≤ ∑ t, Ideal.exp (c t - top a c) := Finset.sum_nonneg fun i _ => exp_nonneg _
    have h3 : (0 : EReal) < (D : EReal) := by rw [← hD]; exact lt_of_lt_of_le h1 (le_add_of_nonneg_right h2)
    exact_mod_cast h3
  unfold attn
  rw [hD]
  have hinv : 0 < D⁻¹ := inv_pos.2 hpos
  simp only [div_pos hpos]
  rw [EReal.right_distrib_of_nonneg_of_ne_top (by exact_mod_cast hinv.le) (EReal.coe_ne_top _),
    ← sum_mul_pos _ _ hinv, ← sum_mul_pos _ _ hinv]
  congr 1 <;> exact Finset.sum_congr rfl fun t _ => by rw [mul_right_comm, mul_comm (Ideal.exp _)]

end Cert.Spec

end
-- ==== Proof.Words.lean ====
module

public import proofs.«01_k».proof.Proof.SpecReal

@[expose] public section

/-! Comparing and adding small numbers as words. -/

noncomputable section

namespace Cert.Spec

open Idealize.ShloMosaic

theorem toInt_small {a : ℕ} (ha : a < 2 ^ 31) : (BitVec.ofNat 32 a).toInt = a := by
  have hn : (BitVec.ofNat 32 a).toNat = a := by rw [BitVec.toNat_ofNat, Nat.mod_eq_of_lt (by omega)]
  rw [BitVec.toInt_eq_toNat_of_lt (by omega), hn]

/-- Comparing two words that read as numbers. -/
theorem sle_toInt (a b : BitVec 32) : IntOp.cmpi CmpIPredicate.sle a b = if a.toInt ≤ b.toInt then 1#1 else 0#1 := by
  unfold IntOp.cmpi
  simp only [BitVec.sle]
  by_cases h : a.toInt ≤ b.toInt <;> simp [h]

/-- Comparing two small numbers as words. -/
theorem sle_small {a b : ℕ} (ha : a < 2 ^ 31) (hb : b < 2 ^ 31) :
    IntOp.cmpi CmpIPredicate.sle (BitVec.ofNat 32 a) (BitVec.ofNat 32 b) = if a ≤ b then 1#1 else 0#1 := by
  rw [sle_toInt, toInt_small ha, toInt_small hb]
  simp only [Nat.cast_le]

/-- Adding two small numbers as words. -/
theorem add_small (a b : ℕ) : IntOp.addi (BitVec.ofNat 32 a) (BitVec.ofNat 32 b) = BitVec.ofNat 32 (a + b) := by
  unfold IntOp.addi
  rw [BitVec.ofNat_add]

end Cert.Spec
end
-- ==== Proof.KVal.lean ====
module

public import proofs.«01_k».proof.Proof.KHost
public import proofs.«01_k».proof.Proof.KReg0
public import proofs.«01_k».proof.Proof.KReg1
public import proofs.«01_k».proof.Proof.KReg2
public import proofs.«01_k».proof.Proof.KReg3
public import proofs.«01_k».proof.Proof.KReg4
public import proofs.«01_k».proof.Proof.SpecAttn
public import proofs.«01_k».proof.Proof.Words

@[expose] public section

/-! The kernel program's results, in the formula's terms. -/

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The kernel program's arguments, by coordinates. -/
def inpK : Spec.Inp where
  x s d := m ((c : Thread nD τ).loc main_arg0) (ix3 0 s d)
  g d := m ((c : Thread nD τ).loc main_arg8) (ix1 d)
  b d := m ((c : Thread nD τ).loc main_arg9) (ix1 d)
  wq d e := m ((c : Thread nD τ).loc main_arg10) (ix2 d e)
  wk d e := m ((c : Thread nD τ).loc main_arg11) (ix2 d e)
  wv d e := m ((c : Thread nD τ).loc main_arg12) (ix2 d e)
  wg d e := m ((c : Thread nD τ).loc main_arg13) (ix2 d e)
  wr d e := m ((c : Thread nD τ).loc main_arg14) (ix2 d e)
  xu h d := m ((c : Thread nD τ).loc main_arg15) (ix2 h d)
  cb h k d := m ((c : Thread nD τ).loc main_arg16) (ix3 h k d)
  xk h t d := m ((c : Thread nD τ).loc main_arg3) (ix4 0 h t d)
  xv h t d := m ((c : Thread nD τ).loc main_arg4) (ix4 0 h t d)
  lm s := m ((c : Thread nD τ).loc main_arg2) (ix2 0 s)

theorem v4_eq : W2 m ρ c (Proc.devRef .tc main_v4) = proj (V1 m ρ c main_v0) (V1 m ρ c main_v2) (V1 m ρ c main_v3) (V1 m ρ c main_v1) :=
  (W2_arr m ρ c 4).trans (final0 (V1 m ρ) c)

/-- The combined weights' column by part. -/
def wpart (I : Spec.Inp) (k : Fin 4) : Fin 1024 → Fin 1024 → EReal := match k with
  | 0 => I.wq | 1 => I.wk | 2 => I.wv | 3 => I.wg

theorem v1_part (k : Fin 4) (h : Fin 16) (d : Fin 64) (e : Fin 1024) :
    V1 m ρ c main_v1 (ix2 e (prow k h d)) = wpart (inpK m c) k e (Spec.hcol h d) := by
  refine (h0_1 (W0 m ρ c) e (prow k h d)).trans ?_
  have hh := h.isLt
  have hd := d.isLt
  match k with
  | 0 =>
    have e1 : (prow 0 h d).val < 1024 := by show 0 * 1024 + (h.val * 64 + d.val) < 1024; omega
    rw [dif_pos e1]
    refine congrArg (fun i : Fin 1024 => W0 m ρ c (Proc.devRef .tc main_arg10) (ix2 e i)) (Fin.ext ?_)
    show 0 * 1024 + (h.val * 64 + d.val) = h.val * 64 + d.val; omega
  | 1 =>
    have e1 : ¬ (prow 1 h d).val < 1024 := by show ¬ 1 * 1024 + (h.val * 64 + d.val) < 1024; omega
    have e2 : (prow 1 h d).val - 1024 < 1024 := by show 1 * 1024 + (h.val * 64 + d.val) - 1024 < 1024; omega
    rw [dif_neg e1, dif_pos e2]
    refine congrArg (fun i : Fin 1024 => W0 m ρ c (Proc.devRef .tc main_arg11) (ix2 e i)) (Fin.ext ?_)
    show 1 * 1024 + (h.val * 64 + d.val) - 1024 = h.val * 64 + d.val; omega
  | 2 =>
    have e1 : ¬ (prow 2 h d).val < 1024 := by show ¬ 2 * 1024 + (h.val * 64 + d.val) < 1024; omega
    have e2 : ¬ (prow 2 h d).val - 1024 < 1024 := by show ¬ 2 * 1024 + (h.val * 64 + d.val) - 1024 < 1024; omega
    have e3 : (prow 2 h d).val - 1024 - 1024 < 1024 := by show 2 * 1024 + (h.val * 64 + d.val) - 1024 - 1024 < 1024; omega
    rw [dif_neg e1, dif_neg e2, dif_pos e3]
    refine congrArg (fun i : Fin 1024 => W0 m ρ c (Proc.devRef .tc main_arg12) (ix2 e i)) (Fin.ext ?_)
    show 2 * 1024 + (h.val * 64 + d.val) - 1024 - 1024 = h.val * 64 + d.val; omega
  | 3 =>
    have e1 : ¬ (prow 3 h d).val < 1024 := by show ¬ 3 * 1024 + (h.val * 64 + d.val) < 1024; omega
    have e2 : ¬ (prow 3 h d).val - 1024 < 1024 := by show ¬ 3 * 1024 + (h.val * 64 + d.val) - 1024 < 1024; omega
    have e3 : ¬ (prow 3 h d).val - 1024 - 1024 < 1024 := by show ¬ 3 * 1024 + (h.val * 64 + d.val) - 1024 - 1024 < 1024; omega
    rw [dif_neg e1, dif_neg e2, dif_neg e3]
    refine congrArg (fun i : Fin 1024 => W0 m ρ c (Proc.devRef .tc main_arg13) (ix2 e i)) (Fin.ext ?_)
    show 3 * 1024 + (h.val * 64 + d.val) - 1024 - 1024 - 1024 = h.val * 64 + d.val; omega

theorem proj1_part (k : Fin 4) (h : Fin 16) (d : Fin 64) (s : Fin 2048) :
    proj1 (fun s d => V1 m ρ c main_v0 (ix2 s d)) (fun d => V1 m ρ c main_v2 (ix2 0 d)) (fun d => V1 m ρ c main_v3 (ix2 0 d)) (fun d e => V1 m ρ c main_v1 (ix2 d e)) (prow k h d) s
      = Spec.pr (inpK m c) (wpart (inpK m c) k) s (Spec.hcol h d) := by
  have e0 : (fun (s : Fin 2048) (d : Fin 1024) => (V1 m ρ c main_v0 (ix2 s d) : EReal)) = (inpK m c).x := funext fun s => funext fun d => h0_0 _ s d
  have e1 : (fun (d : Fin 1024) => (V1 m ρ c main_v2 (ix2 0 d) : EReal)) = (inpK m c).g := funext fun d => h0_2 _ d
  have e2 : (fun (d : Fin 1024) => (V1 m ρ c main_v3 (ix2 0 d) : EReal)) = (inpK m c).b := funext fun d => h0_3 _ d
  unfold proj1 Spec.pr Spec.xt
  refine Finset.sum_congr rfl fun x _ => ?_
  rw [mul_comm]
  refine congrArg₂ (fun a b : EReal => a * b) ?_ (v1_part m ρ c k h d x)
  have e0' := congrFun e0 s
  have e1' := congrFun e1 x
  have e2' := congrFun e2 x
  exact congrArg₂ (fun a b : EReal => a + b) (congrArg₂ (fun a b : EReal => a * b) (congrArg (fun r => Spec.nrm Spec.c1024 r x) e0') e1') e2'

theorem v4_low (k : Fin 4) (hk : k.val < 3) (h : Fin 16) (d : Fin 64) (s : Fin 2048) :
    W2 m ρ c (Proc.devRef .tc main_v4) (ix2 (prow k h d) s) = Spec.pr (inpK m c) (wpart (inpK m c) k) s (Spec.hcol h d) := by
  refine (congrFun (v4_eq m ρ c) _).trans (Eq.trans ?_ (proj1_part m ρ c k h d s))
  have e1 : (prow k h d).val < 3072 := by show k.val * 1024 + (h.val * 64 + d.val) < 3072; omega
  exact if_pos e1

theorem v4_gate (h : Fin 16) (d : Fin 64) (s : Fin 2048) :
    W2 m ρ c (Proc.devRef .tc main_v4) (ix2 (prow 3 h d) s) = Spec.gt (inpK m c) s (Spec.hcol h d) := by
  refine (congrFun (v4_eq m ρ c) _).trans ?_
  have e1 : ¬ (prow 3 h d).val < 3072 := by show ¬ 3 * 1024 + (h.val * 64 + d.val) < 3072; omega
  refine (if_neg e1).trans ?_
  exact congrArg (fun a : EReal => a * Ideal.logistic a) (proj1_part m ρ c 3 h d s)

theorem krow_eq (h : Fin 16) (d : Fin 64) : krow h d = prow 1 h d := Fin.ext (by show 1024 + (h.val * 64 + d.val) = 1 * 1024 + (h.val * 64 + d.val); omega)

theorem ky_eq (h : Fin 16) (s : Fin 2048) :
    (Spec.nrm Spec.c64 fun d => W2 m ρ c (Proc.devRef .tc main_v4) (ix2 (krow h d) s)) = Spec.ky (inpK m c) h s := by
  funext d
  unfold Spec.ky
  refine congrArg (fun r => Spec.nrm Spec.c64 r d) (funext fun d => ?_)
  rw [krow_eq]
  exact v4_low m ρ c 1 (by decide) h d s

theorem cb_eq (h : Fin 16) : (fun (k : Fin 512) (d : Fin 64) => (W2 m ρ c (Proc.devRef .tc main_arg16) (ix3 h k d) : EReal)) = (inpK m c).cb h := by
  funext k d
  exact congrFun (W2_args m ρ c main_arg16 (by decide)) _

theorem v5_0_eq (h : Fin 16) (d : Fin 64) (s : Fin 2048) : W3 m ρ c (Proc.devRef .tc main_v5_0) (ix3 h d s) = Spec.kh (inpK m c) h s d := by
  refine (congrFun ((W3_arr m ρ c 3).trans (final1_3 (V2 m ρ) c)) (ix3 h d s)).trans ?_
  exact congrArg₂ (fun k cb => Spec.near k cb d) (ky_eq m ρ c h s) (cb_eq m ρ c h)

theorem v5_1_eq : W3 m ρ c (Proc.devRef .tc main_v5_1) (ix2 0 0) = ∑ h : Fin 16, ∑ s : Fin 2048, Spec.er (inpK m c) h s * (inpK m c).lm s := by
  refine (congrFun (W3_arr m ρ c 4) (ix2 0 0)).trans ((final1_4 (V2 m ρ) c (ix2 0 0)).trans ?_)
  unfold lsum
  refine Finset.sum_congr (M := EReal) rfl fun h _ => Finset.sum_congr (M := EReal) rfl fun s _ => ?_
  refine congrArg₂ (fun a b : EReal => a * b) (congrArg₂ Spec.err (ky_eq m ρ c h s) (cb_eq m ρ c h)) ?_
  exact congrFun (W2_args m ρ c main_arg2 (by decide)) _

end Cert.KernelIdeal.Val
end
-- ==== Proof.KEnd.lean ====
module

public import proofs.«01_k».proof.Proof.KVal

@[expose] public section

/-! The kernel program's attention and results, in the formula's terms. -/

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ### Where the arrays are left alone -/

theorem v4_6 : W6 m ρ c (Proc.devRef .tc main_v4) = W2 m ρ c (Proc.devRef .tc main_v4) :=
  (W6_of m ρ c main_v4 (by decide)).trans <| (W5_of m ρ c main_v4 (by decide)).trans <| (W4_of m ρ c main_v4 (by decide)).trans <| W3_of m ρ c main_v4 (by decide)
theorem v4_10 : W10 m ρ c (Proc.devRef .tc main_v4) = W2 m ρ c (Proc.devRef .tc main_v4) :=
  (W10_of m ρ c main_v4 (by decide)).trans <| (W9_of m ρ c main_v4 (by decide)).trans <| (W8_of m ρ c main_v4 (by decide)).trans <| (W7_of m ρ c main_v4 (by decide)).trans <| v4_6 m ρ c
theorem v5_6 : W6 m ρ c (Proc.devRef .tc main_v5_0) = W3 m ρ c (Proc.devRef .tc main_v5_0) :=
  (W6_of m ρ c main_v5_0 (by decide)).trans <| (W5_of m ρ c main_v5_0 (by decide)).trans <| (W4_of m ρ c main_v5_0 (by decide))
theorem v5_10 : W10 m ρ c (Proc.devRef .tc main_v5_0) = W3 m ρ c (Proc.devRef .tc main_v5_0) :=
  (W10_of m ρ c main_v5_0 (by decide)).trans <| (W9_of m ρ c main_v5_0 (by decide)).trans <| (W8_of m ρ c main_v5_0 (by decide)).trans <| (W7_of m ρ c main_v5_0 (by decide)).trans <| v5_6 m ρ c
theorem v51_13 : W13 m ρ c (Proc.devRef .tc main_v5_1) = W3 m ρ c (Proc.devRef .tc main_v5_1) :=
  (W13_of m ρ c main_v5_1 (by decide)).trans <| (W12_of m ρ c main_v5_1 (by decide)).trans <| (W11_of m ρ c main_v5_1 (by decide)).trans <|
  (W10_of m ρ c main_v5_1 (by decide)).trans <| (W9_of m ρ c main_v5_1 (by decide)).trans <| (W8_of m ρ c main_v5_1 (by decide)).trans <| (W7_of m ρ c main_v5_1 (by decide)).trans <|
  (W6_of m ρ c main_v5_1 (by decide)).trans <| (W5_of m ρ c main_v5_1 (by decide)).trans <| (W4_of m ρ c main_v5_1 (by decide))
theorem v6_6 (h : Fin 16) (d : Fin 64) : W6 m ρ c (Proc.devRef .tc main_v6) (ix3 h d 0) = (inpK m c).xu h d :=
  (congrFun ((W6_of m ρ c main_v6 (by decide)).trans (W5_of m ρ c main_v6 (by decide))) _).trans <| (h2_6 _ h d).trans <| congrFun (W3_args m ρ c main_arg15 (by decide)) _
theorem v6_10 (h : Fin 16) (d : Fin 64) : W10 m ρ c (Proc.devRef .tc main_v6) (ix3 h d 0) = (inpK m c).xu h d :=
  (congrFun ((W10_of m ρ c main_v6 (by decide)).trans <| (W9_of m ρ c main_v6 (by decide)).trans <| (W8_of m ρ c main_v6 (by decide)).trans <| (W7_of m ρ c main_v6 (by decide))) _).trans <| v6_6 m ρ c h d
theorem v8_7 (s : Fin 1024) : W7 m ρ c (Proc.devRef .tc main_v8) (ix2 s 0) = BitVec.ofNat 32 s.val :=
  (congrFun ((W7_of m ρ c main_v8 (by decide)).trans <| (W6_of m ρ c main_v8 (by decide)).trans (W5_of m ρ c main_v8 (by decide))) _).trans <| h2_8 _ s
theorem v19_11 : W11 m ρ c (Proc.devRef .tc main_v19) = W7 m ρ c (Proc.devRef .tc main_v19) :=
  (W11_of m ρ c main_v19 (by decide)).trans <| (W10_of m ρ c main_v19 (by decide)).trans <| (W9_of m ρ c main_v19 (by decide)).trans <| (W8_of m ρ c main_v19 (by decide))

/-! ### What the mask multiplies -/

theorem sel_one (p : Prop) [Decidable p] (a b : EReal) : Scalar.select (if p then 1#1 else 0#1) a b = if p then a else b := by
  by_cases h : p
  · rw [if_pos h, if_pos h]; rfl
  · rw [if_neg h, if_neg h]; rfl

theorem v18_eq (t s : Fin 1024) : W6 m ρ c (Proc.devRef .tc main_v18) (ix2 t s) = (if t.val ≤ s.val then 0 else 1 : EReal) := by
  refine (h2_18 (W5 m ρ c) t s).trans ((h2_17 (W4 m ρ c) t s).trans ?_)
  have ht := t.isLt
  have hs := s.isLt
  have e1 : W4 m ρ c (Proc.devRef .tc main_v16) (ix2 t s) = if t.val ≤ s.val then 1#1 else 0#1 := by
    refine (h2_16 (W3 m ρ c) t s).trans ?_
    rw [show (0#32 : BitVec 32) = BitVec.ofNat 32 0 from rfl, Spec.add_small, Nat.zero_add]
    exact Spec.sle_small (by omega) (by omega)
  exact (congr (congr (congrArg Scalar.select e1) (h2_c (W3 m ρ c) ix0)) (h2_c0 (W3 m ρ c) ix0)).trans (sel_one _ _ _)

theorem v29_eq (t : Fin 2048) (s : Fin 1024) : W10 m ρ c (Proc.devRef .tc main_v29) (ix2 t s) = (if t.val ≤ 1024 + s.val then 0 else 1 : EReal) := by
  refine (h3_29 (W9 m ρ c) t s).trans ((h3_28 (W8 m ρ c) t s).trans ?_)
  have ht := t.isLt
  have hs := s.isLt
  have e1 : W8 m ρ c (Proc.devRef .tc main_v27) (ix2 t s) = if t.val ≤ 1024 + s.val then 1#1 else 0#1 := by
    refine (h3_27 (W7 m ρ c) t s).trans ?_
    rw [v8_7, show (1024#32 : BitVec 32) = BitVec.ofNat 32 1024 from rfl, Spec.add_small]
    exact Spec.sle_small (by omega) (by omega)
  exact (congr (congr (congrArg Scalar.select e1) (h3_c (W7 m ρ c) ix0)) (h3_c0 (W7 m ρ c) ix0)).trans (sel_one _ _ _)

/-! ### The attention -/

theorem headAttn_eq {n : ℕ} (I : Spec.Inp) (h : Fin 16) (s : Fin 2048) (d : Fin 64) (k : Fin n → Fin 2048) :
    headAttn (n := n) (fun d => Spec.pr I I.wq s (Spec.hcol h d)) (I.xu h) (I.xk h) (I.xv h) (fun d t => Spec.kh I h (k t) d) (fun d t => Spec.vl I h (k t) d)
      (fun t => if (k t).val ≤ s.val then 0 else 1) (Spec.gt I s (Spec.hcol h d)) d
    = Spec.attn (Spec.sm I h s) (fun t => Spec.ss I h s (k t)) (fun t => I.xv h t d) (fun t => Spec.vl I h (k t) d) * Spec.gt I s (Spec.hcol h d) := by
  have e : (fun t => (∑ d : Fin 64, Spec.kh I h (k t) d * qcol (fun d => Spec.pr I I.wq s (Spec.hcol h d)) (I.xu h) d) * Spec.c8th + (if (k t).val ≤ s.val then 0 else 1) * ⊥)
      = fun t => Spec.ss I h s (k t) := by
    funext t
    unfold Spec.ss
    by_cases hk : (k t).val ≤ s.val
    · rw [if_pos hk, if_pos (show k t ≤ s from hk), zero_mul, add_zero]; rfl
    · rw [if_neg hk, if_neg (show ¬ k t ≤ s from hk), one_mul, EReal.add_bot]
  unfold headAttn
  rw [e]
  rfl

theorem wvd_half (I : Spec.Inp) (h : Fin 16) (s : Fin 1024) (d : Fin 64) :
    Spec.attn (Spec.sm I h (half0 s)) (fun t : Fin 1024 => Spec.ss I h (half0 s) (key0 t)) (fun t => I.xv h t d) (fun t : Fin 1024 => Spec.vl I h (key0 t) d) = Spec.wvd I h (half0 s) d := by
  refine (Spec.attn_castLE (show 1024 ≤ 2048 by decide) (Spec.sm I h (half0 s)) (Spec.ss I h (half0 s)) (fun t => I.xv h t d) (fun t => Spec.vl I h t d) fun i hi => ?_).symm
  unfold Spec.ss
  have hs := s.isLt
  exact if_neg (show ¬ i.val ≤ s.val by omega)

theorem att2_at (P : FVec Ideal S1024x1024 .f32) (Y : FVec Ideal S4096x2048 .f32) (U : FVec Ideal S16x64x1 .f32) (K W : FVec Ideal S1x16x256x64 .f32) (C : FVec Ideal S16x64x2048 .f32)
    (h : Fin 16) (d : Fin 64) (s : Fin 1024) : att2 P Y U K W C (ix3 h d s) =
    headAttn (n := 1024) (fun d => Y (ix2 (prow 0 h d) (half0 s))) (fun d => U (ix3 h d 0)) (fun t d => K (ix4 0 h t d)) (fun t d => W (ix4 0 h t d))
    (fun d t => C (ix3 h d (key0 t))) (fun d t => Y (ix2 (prow 2 h d) (key0 t))) (fun t => P (ix2 t s)) (Y (ix2 (prow 3 h d) (half0 s))) d := rfl

theorem att3_at (P : FVec Ideal S2048x1024 .f32) (Y : FVec Ideal S4096x2048 .f32) (U : FVec Ideal S16x64x1 .f32) (K W : FVec Ideal S1x16x256x64 .f32) (C : FVec Ideal S16x64x2048 .f32)
    (h : Fin 16) (d : Fin 64) (s : Fin 1024) : att3 P Y U K W C (ix3 h d s) =
    headAttn (n := 2048) (fun d => Y (ix2 (prow 0 h d) (half1 s))) (fun d => U (ix3 h d 0)) (fun t d => K (ix4 0 h t d)) (fun t d => W (ix4 0 h t d))
    (fun d t => C (ix3 h d (t))) (fun d t => Y (ix2 (prow 2 h d) (t))) (fun t => P (ix2 t s)) (Y (ix2 (prow 3 h d) (half1 s))) d := rfl

theorem v19_eq (h : Fin 16) (d : Fin 64) (s : Fin 1024) :
    W7 m ρ c (Proc.devRef .tc main_v19) (ix3 h d s) = Spec.wvd (inpK m c) h (half0 s) d * Spec.gt (inpK m c) (half0 s) (Spec.hcol h d) := by
  refine (congrFun ((W7_arr m ρ c 8).trans (final2 (V6 m ρ) c)) (ix3 h d s)).trans ((att2_at _ _ _ _ _ _ h d s).trans ?_)
  refine Eq.trans ?_ ((headAttn_eq (inpK m c) h (half0 s) d key0).trans (congrArg (fun a : EReal => a * Spec.gt (inpK m c) (half0 s) (Spec.hcol h d)) (wvd_half (inpK m c) h s d)))
  refine headAttn_congr _ (fun d => ?_) (fun d => ?_) (fun r d => ?_) (fun r d => ?_) (fun d r => ?_) (fun d r => ?_) (fun r => ?_) ?_
  · exact (congrFun (v4_6 m ρ c) _).trans (v4_low m ρ c 0 (by decide) h d (half0 s))
  · exact v6_6 m ρ c h d
  · exact congrFun (W6_args m ρ c main_arg3 (by decide)) _
  · exact congrFun (W6_args m ρ c main_arg4 (by decide)) _
  · exact (congrFun (v5_6 m ρ c) _).trans (v5_0_eq m ρ c h d (key0 r))
  · exact (congrFun (v4_6 m ρ c) _).trans (v4_low m ρ c 2 (by decide) h d (key0 r))
  · exact v18_eq m ρ c r s
  · exact (congrFun (v4_6 m ρ c) _).trans (v4_gate m ρ c h d (half0 s))

theorem v30_eq (h : Fin 16) (d : Fin 64) (s : Fin 1024) :
    W11 m ρ c (Proc.devRef .tc main_v30) (ix3 h d s) = Spec.wvd (inpK m c) h (half1 s) d * Spec.gt (inpK m c) (half1 s) (Spec.hcol h d) := by
  refine (congrFun ((W11_arr m ρ c 8).trans (final3 (V10 m ρ) c)) (ix3 h d s)).trans ((att3_at _ _ _ _ _ _ h d s).trans ?_)
  refine Eq.trans ?_ (headAttn_eq (inpK m c) h (half1 s) d fun t : Fin 2048 => t)
  refine headAttn_congr _ (fun d => ?_) (fun d => ?_) (fun r d => ?_) (fun r d => ?_) (fun d r => ?_) (fun d r => ?_) (fun r => ?_) ?_
  · exact (congrFun (v4_10 m ρ c) _).trans (v4_low m ρ c 0 (by decide) h d (half1 s))
  · exact v6_10 m ρ c h d
  · exact congrFun (W10_args m ρ c main_arg3 (by decide)) _
  · exact congrFun (W10_args m ρ c main_arg4 (by decide)) _
  · exact (congrFun (v5_10 m ρ c) _).trans (v5_0_eq m ρ c h d r)
  · exact (congrFun (v4_10 m ρ c) _).trans (v4_low m ρ c 2 (by decide) h d r)
  · exact v29_eq m ρ c r s
  · exact (congrFun (v4_10 m ρ c) _).trans (v4_gate m ρ c h d (half1 s))

theorem v31_eq (h : Fin 16) (d : Fin 64) (s : Fin 2048) :
    W12 m ρ c (Proc.devRef .tc main_v31) (ix3 h d s) = Spec.wvd (inpK m c) h s d * Spec.gt (inpK m c) s (Spec.hcol h d) := by
  refine (h4_31 (W11 m ρ c) h d s).trans ?_
  by_cases g : s.val < 1024
  · rw [dif_pos g]
    refine (congrFun (v19_11 m ρ c) _).trans ((v19_eq m ρ c h d ⟨s.val, g⟩).trans ?_)
    rw [show half0 ⟨s.val, g⟩ = s from rfl]
  · rw [dif_neg g]
    have hs := s.isLt
    refine (v30_eq m ρ c h d ⟨s.val - 1024, by omega⟩).trans ?_
    rw [show half1 ⟨s.val - 1024, by omega⟩ = s from Fin.ext (by show 1024 + (s.val - 1024) = s.val; omega)]

theorem hcol_hd (x : Fin 1024) : Spec.hcol (Spec.hd x) (Spec.hc x) = x := Fin.ext (by show x.val / 64 * 64 + x.val % 64 = x.val; omega)

/-- The kernel program's first result. -/
theorem v38_eq (s : Fin 2048) (e : Fin 1024) : W14 m ρ c (Proc.devRef .tc main_v38) (ix3 0 s e) = Spec.res (inpK m c) s e := by
  refine (h5_38 (W13 m ρ c) s e).trans ((congrFun ((W13_arr m ρ c 2).trans (final4 (V12 m ρ) c)) (ix2 s e)).trans ?_)
  show last4At (V12 m ρ c main_v31) (V12 m ρ c main_arg14) s e = _
  unfold last4At Spec.res
  refine Finset.sum_congr (M := EReal) rfl fun x _ => congrArg₂ (fun a b : EReal => a * b) ?_ ?_
  · refine (v31_eq m ρ c (Spec.hd x) (Spec.hc x) s).trans ?_
    rw [hcol_hd]
  · exact congrFun (W12_args m ρ c main_arg14 (by decide)) _

/-- The kernel program's second result. -/
theorem v37_eq (i) : W14 m ρ c (Proc.devRef .tc main_v37) i = Spec.loss (inpK m c) := by
  refine (h5_37 (W13 m ρ c) i).trans ?_
  unfold Spec.loss
  refine congrArg₂ Ideal.div ((congrFun (v51_13 m ρ c) _).trans (v5_1_eq m ρ c)) ?_
  refine congrArg (fun a : EReal => a * Spec.c1024 + Spec.tiny) ?_
  refine (Finset.sum_congr (M := EReal) rfl fun k _ => Finset.sum_congr (M := EReal) rfl fun s _ => ?_).trans (Fin.sum_univ_one (M := EReal) _)
  obtain rfl : k = 0 := Subsingleton.elim _ _
  exact congrFun (W13_args m ρ c main_arg2 (by decide)) _

end Cert.KernelIdeal.Val
end
-- ==== Proof.ROps.lean ====
/- The reference program's host operations, in order, cut where a later stage of the mathematics begins; its run leaves every buffer at what the operations leave. -/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- Stage 1: the operations up to `main_v23`. -/
abbrev st1 : List (HloOp τ sig (Elt F)) :=
  [ nullary main_cst (constant S_ .f32 0x00000000#32),
    binary main_arg0 main_cst main_v0 ((fun x v => Host.reduceAdd x v reducesTo_S1x2048x1024_S1x2048_d2 h_S_) : (⟨S1x2048x1024, .f32⟩ : BufTy).Contents (Elt F) → (⟨S_, .f32⟩ : BufTy).Contents (Elt F) → (⟨S1x2048, .f32⟩ : BufTy).Contents (Elt F)),
    unary main_v0 main_v1 (broadcastInDim S1x2048x1 ![0, 1] bcast_S1x2048_S1x2048x1_0_1 : (⟨S1x2048, .f32⟩ : BufTy).Contents (Elt F) → (⟨S1x2048x1, .f32⟩ : BufTy).Contents (Elt F)),
    nullary main_cst_0 (constant S_ .f32 0x44800000#32),
    unary main_cst_0 main_v2 (broadcastInDim S1x2048x1 ![] bcast_S_S1x2048x1 : (⟨S_, .f32⟩ : BufTy).Contents (Elt F) → (⟨S1x2048x1, .f32⟩ : BufTy).Contents (Elt F)),
    binary main_v1 main_v2 main_v3 (Host.divf : (⟨S1x2048x1, .f32⟩ : BufTy).Contents (Elt F) → (⟨S1x2048x1, .f32⟩ : BufTy).Contents (Elt F) → (⟨S1x2048x1, .f32⟩ : BufTy).Contents (Elt F)),
    unary main_v3 main_v4 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_arg0 main_v4 main_v5 (subf : (⟨S1x2048x1024, .f32⟩ : BufTy).Contents (Elt F) → (⟨S1x2048x1024, .f32⟩ : BufTy).Contents (Elt F) → (⟨S1x2048x1024, .f32⟩ : BufTy).Contents (Elt F)),
    binary main_v5 main_v5 main_v6 (mulf : (⟨S1x2048x1024, .f32⟩ : BufTy).Contents (Elt F) → (⟨S1x2048x1024, .f32⟩ : BufTy).Contents (Elt F) → (⟨S1x2048x1024, .f32⟩ : BufTy).Contents (Elt F)),
    nullary main_cst_1 (constant S_ .f32 0x00000000#32),
    binary main_v6 main_cst_1 main_v7 ((fun x v => Host.reduceAdd x v reducesTo_S1x2048x1024_S1x2048_d2 h_S_) : (⟨S1x2048x1024, .f32⟩ : BufTy).Contents (Elt F) → (⟨S_, .f32⟩ : BufTy).Contents (Elt F) → (⟨S1x2048, .f32⟩ : BufTy).Contents (Elt F)),
    unary main_v7 main_v8 (broadcastInDim S1x2048x1 ![0, 1] bcast_S1x2048_S1x2048x1_0_1 : (⟨S1x2048, .f32⟩ : BufTy).Contents (Elt F) → (⟨S1x2048x1, .f32⟩ : BufTy).Contents (Elt F)),
    nullary main_cst_2 (constant S_ .f32 0x44800000#32),
    unary main_cst_2 main_v9 (broadcastInDim S1x2048x1 ![] bcast_S_S1x2048x1 : (⟨S_, .f32⟩ : BufTy).Contents (Elt F) → (⟨S1x2048x1, .f32⟩ : BufTy).Contents (Elt F)),
    binary main_v8 main_v9 main_v10 (Host.divf : (⟨S1x2048x1, .f32⟩ : BufTy).Contents (Elt F) → (⟨S1x2048x1, .f32⟩ : BufTy).Contents (Elt F) → (⟨S1x2048x1, .f32⟩ : BufTy).Contents (Elt F)),
    unary main_v3 main_v11 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_arg0 main_v11 main_v12 (subf : (⟨S1x2048x1024, .f32⟩ : BufTy).Contents (Elt F) → (⟨S1x2048x1024, .f32⟩ : BufTy).Contents (Elt F) → (⟨S1x2048x1024, .f32⟩ : BufTy).Contents (Elt F)),
    nullary main_cst_3 (constant S_ .f32 0x358637BD#32),
    unary main_cst_3 main_v13 (broadcastInDim S1x2048x1 ![] bcast_S_S1x2048x1 : (⟨S_, .f32⟩ : BufTy).Contents (Elt F) → (⟨S1x2048x1, .f32⟩ : BufTy).Contents (Elt F)),
    binary main_v10 main_v13 main_v14 (addf : (⟨S1x2048x1, .f32⟩ : BufTy).Contents (Elt F) → (⟨S1x2048x1, .f32⟩ : BufTy).Contents (Elt F) → (⟨S1x2048x1, .f32⟩ : BufTy).Contents (Elt F)),
    unary main_v14 main_v15 (Host.rsqrt : (⟨S1x2048x1, .f32⟩ : BufTy).Contents (Elt F) → (⟨S1x2048x1, .f32⟩ : BufTy).Contents (Elt F)),
    unary main_v15 main_v16 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v12 main_v16 main_v17 (mulf : (⟨S1x2048x1024, .f32⟩ : BufTy).Contents (Elt F) → (⟨S1x2048x1024, .f32⟩ : BufTy).Contents (Elt F) → (⟨S1x2048x1024, .f32⟩ : BufTy).Contents (Elt F)),
    unary main_arg8 main_v18 (broadcastInDim S1x1x1024 ![2] bcast_S1024_S1x1x1024_2 : (⟨S1024, .f32⟩ : BufTy).Contents (Elt F) → (⟨S1x1x1024, .f32⟩ : BufTy).Contents (Elt F)),
    unary main_v18 main_v19 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v17 main_v19 main_v20 (mulf : (⟨S1x2048x1024, .f32⟩ : BufTy).Contents (Elt F) → (⟨S1x2048x1024, .f32⟩ : BufTy).Contents (Elt F) → (⟨S1x2048x1024, .f32⟩ : BufTy).Contents (Elt F)),
    unary main_arg9 main_v21 (broadcastInDim S1x1x1024 ![2] bcast_S1024_S1x1x1024_2 : (⟨S1024, .f32⟩ : BufTy).Contents (Elt F) → (⟨S1x1x1024, .f32⟩ : BufTy).Contents (Elt F)),
    unary main_v21 main_v22 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v20 main_v22 main_v23 (addf : (⟨S1x2048x1024, .f32⟩ : BufTy).Contents (Elt F) → (⟨S1x2048x1024, .f32⟩ : BufTy).Contents (Elt F) → (⟨S1x2048x1024, .f32⟩ : BufTy).Contents (Elt F)) ]

/-- What stage 1 writes. -/
abbrev st1_W : List (Ref sig .tc) := [main_cst, main_v0, main_v1, main_cst_0, main_v2, main_v3, main_v4, main_v5, main_v6, main_cst_1, main_v7, main_v8, main_cst_2, main_v9, main_v10, main_v11, main_v12, main_cst_3, main_v13, main_v14, main_v15, main_v16, main_v17, main_v18, main_v19, main_v20, main_v21, main_v22, main_v23]

/-- Stage 2: the operations up to `main_v44`. -/
abbrev st2 : List (HloOp τ sig (Elt F)) :=
  [ binary main_v23 main_arg10 main_v24 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)),
    reshape main_v24 main_v25 (rfl : (.f32 : EltTy) = .f32) shapeCasts_S1x2048x1024_S1x2048x16x64,
    unary main_v25 main_v26 ((transpose S1x16x2048x64 [0, 2, 1, 3] · transposes_S1x2048x16x64_S1x16x2048x64_0_2_1_3) : (⟨S1x2048x16x64, .f32⟩ : BufTy).Contents (Elt F) → (⟨S1x16x2048x64, .f32⟩ : BufTy).Contents (Elt F)),
    nullary main_cst_4 (constant S_ .f32 0x00000000#32),
    binary main_v26 main_cst_4 main_v27 ((fun x v => Host.reduceAdd x v reducesTo_S1x16x2048x64_S1x16x2048_d3 h_S_) : (⟨S1x16x2048x64, .f32⟩ : BufTy).Contents (Elt F) → (⟨S_, .f32⟩ : BufTy).Contents (Elt F) → (⟨S1x16x2048, .f32⟩ : BufTy).Contents (Elt F)),
    unary main_v27 main_v28 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    nullary main_cst_5 (constant S_ .f32 0x42800000#32),
    unary main_cst_5 main_v29 (broadcastInDim S1x16x2048x1 ![] bcast_S_S1x16x2048x1 : (⟨S_, .f32⟩ : BufTy).Contents (Elt F) → (⟨S1x16x2048x1, .f32⟩ : BufTy).Contents (Elt F)),
    binary main_v28 main_v29 main_v30 (Host.divf : (⟨S1x16x2048x1, .f32⟩ : BufTy).Contents (Elt F) → (⟨S1x16x2048x1, .f32⟩ : BufTy).Contents (Elt F) → (⟨S1x16x2048x1, .f32⟩ : BufTy).Contents (Elt F)),
    unary main_v30 main_v31 (broadcastInDim S1x16x2048x64 ![0, 1, 2, 3] bcast_S1x16x2048x1_S1x16x2048x64_0_1_2_3 : (⟨S1x16x2048x1, .f32⟩ : BufTy).Contents (Elt F) → (⟨S1x16x2048x64, .f32⟩ : BufTy).Contents (Elt F)),
    binary main_v26 main_v31 main_v32 (subf : (⟨S1x16x2048x64, .f32⟩ : BufTy).Contents (Elt F) → (⟨S1x16x2048x64, .f32⟩ : BufTy).Contents (Elt F) → (⟨S1x16x2048x64, .f32⟩ : BufTy).Contents (Elt F)),
    binary main_v32 main_v32 main_v33 (mulf : (⟨S1x16x2048x64, .f32⟩ : BufTy).Contents (Elt F) → (⟨S1x16x2048x64, .f32⟩ : BufTy).Contents (Elt F) → (⟨S1x16x2048x64, .f32⟩ : BufTy).Contents (Elt F)),
    nullary main_cst_6 (constant S_ .f32 0x00000000#32),
    binary main_v33 main_cst_6 main_v34 ((fun x v => Host.reduceAdd x v reducesTo_S1x16x2048x64_S1x16x2048_d3 h_S_) : (⟨S1x16x2048x64, .f32⟩ : BufTy).Contents (Elt F) → (⟨S_, .f32⟩ : BufTy).Contents (Elt F) → (⟨S1x16x2048, .f32⟩ : BufTy).Contents (Elt F)),
    unary main_v34 main_v35 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    nullary main_cst_7 (constant S_ .f32 0x42800000#32),
    unary main_cst_7 main_v36 (broadcastInDim S1x16x2048x1 ![] bcast_S_S1x16x2048x1 : (⟨S_, .f32⟩ : BufTy).Contents (Elt F) → (⟨S1x16x2048x1, .f32⟩ : BufTy).Contents (Elt F)),
    binary main_v35 main_v36 main_v37 (Host.divf : (⟨S1x16x2048x1, .f32⟩ : BufTy).Contents (Elt F) → (⟨S1x16x2048x1, .f32⟩ : BufTy).Contents (Elt F) → (⟨S1x16x2048x1, .f32⟩ : BufTy).Contents (Elt F)),
    unary main_v30 main_v38 (broadcastInDim S1x16x2048x64 ![0, 1, 2, 3] bcast_S1x16x2048x1_S1x16x2048x64_0_1_2_3 : (⟨S1x16x2048x1, .f32⟩ : BufTy).Contents (Elt F) → (⟨S1x16x2048x64, .f32⟩ : BufTy).Contents (Elt F)),
    binary main_v26 main_v38 main_v39 (subf : (⟨S1x16x2048x64, .f32⟩ : BufTy).Contents (Elt F) → (⟨S1x16x2048x64, .f32⟩ : BufTy).Contents (Elt F) → (⟨S1x16x2048x64, .f32⟩ : BufTy).Contents (Elt F)),
    nullary main_cst_8 (constant S_ .f32 0x358637BD#32),
    unary main_cst_8 main_v40 (broadcastInDim S1x16x2048x1 ![] bcast_S_S1x16x2048x1 : (⟨S_, .f32⟩ : BufTy).Contents (Elt F) → (⟨S1x16x2048x1, .f32⟩ : BufTy).Contents (Elt F)),
    binary main_v37 main_v40 main_v41 (addf : (⟨S1x16x2048x1, .f32⟩ : BufTy).Contents (Elt F) → (⟨S1x16x2048x1, .f32⟩ : BufTy).Contents (Elt F) → (⟨S1x16x2048x1, .f32⟩ : BufTy).Contents (Elt F)),
    unary main_v41 main_v42 (Host.rsqrt : (⟨S1x16x2048x1, .f32⟩ : BufTy).Contents (Elt F) → (⟨S1x16x2048x1, .f32⟩ : BufTy).Contents (Elt F)),
    unary main_v42 main_v43 (broadcastInDim S1x16x2048x64 ![0, 1, 2, 3] bcast_S1x16x2048x1_S1x16x2048x64_0_1_2_3 : (⟨S1x16x2048x1, .f32⟩ : BufTy).Contents (Elt F) → (⟨S1x16x2048x64, .f32⟩ : BufTy).Contents (Elt F)),
    binary main_v39 main_v43 main_v44 (mulf : (⟨S1x16x2048x64, .f32⟩ : BufTy).Contents (Elt F) → (⟨S1x16x2048x64, .f32⟩ : BufTy).Contents (Elt F) → (⟨S1x16x2048x64, .f32⟩ : BufTy).Contents (Elt F)) ]

/-- What stage 2 writes. -/
abbrev st2_W : List (Ref sig .tc) := [main_v24, main_v25, main_v26, main_cst_4, main_v27, main_v28, main_cst_5, main_v29, main_v30, main_v31, main_v32, main_v33, main_cst_6, main_v34, main_v35, main_cst_7, main_v36, main_v37, main_v38, main_v39, main_cst_8, main_v40, main_v41, main_v42, main_v43, main_v44]

/-- Stage 3: the operations up to `main_v48`. -/
abbrev st3 : List (HloOp τ sig (Elt F)) :=
  [ binary main_v23 main_arg11 main_v45 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)),
    reshape main_v45 main_v46 (rfl : (.f32 : EltTy) = .f32) shapeCasts_S1x2048x1024_S1x2048x16x64,
    unary main_v46 main_v47 ((transpose S1x16x2048x64 [0, 2, 1, 3] · transposes_S1x2048x16x64_S1x16x2048x64_0_2_1_3) : (⟨S1x2048x16x64, .f32⟩ : BufTy).Contents (Elt F) → (⟨S1x16x2048x64, .f32⟩ : BufTy).Contents (Elt F)),
    nullary main_cst_9 (constant S_ .f32 0x00000000#32),
    binary main_v47 main_cst_9 main_v48 ((fun x v => Host.reduceAdd x v reducesTo_S1x16x2048x64_S1x16x2048_d3 h_S_) : (⟨S1x16x2048x64, .f32⟩ : BufTy).Contents (Elt F) → (⟨S_, .f32⟩ : BufTy).Contents (Elt F) → (⟨S1x16x2048, .f32⟩ : BufTy).Contents (Elt F)) ]

/-- What stage 3 writes. -/
abbrev st3_W : List (Ref sig .tc) := [main_v45, main_v46, main_v47, main_cst_9, main_v48]

/-- Stage 4: the operations up to `main_v65`. -/
abbrev st4 : List (HloOp τ sig (Elt F)) :=
  [ unary main_v48 main_v49 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    nullary main_cst_10 (constant S_ .f32 0x42800000#32),
    unary main_cst_10 main_v50 (broadcastInDim S1x16x2048x1 ![] bcast_S_S1x16x2048x1 : (⟨S_, .f32⟩ : BufTy).Contents (Elt F) → (⟨S1x16x2048x1, .f32⟩ : BufTy).Contents (Elt F)),
    binary main_v49 main_v50 main_v51 (Host.divf : (⟨S1x16x2048x1, .f32⟩ : BufTy).Contents (Elt F) → (⟨S1x16x2048x1, .f32⟩ : BufTy).Contents (Elt F) → (⟨S1x16x2048x1, .f32⟩ : BufTy).Contents (Elt F)),
    unary main_v51 main_v52 (broadcastInDim S1x16x2048x64 ![0, 1, 2, 3] bcast_S1x16x2048x1_S1x16x2048x64_0_1_2_3 : (⟨S1x16x2048x1, .f32⟩ : BufTy).Contents (Elt F) → (⟨S1x16x2048x64, .f32⟩ : BufTy).Contents (Elt F)),
    binary main_v47 main_v52 main_v53 (subf : (⟨S1x16x2048x64, .f32⟩ : BufTy).Contents (Elt F) → (⟨S1x16x2048x64, .f32⟩ : BufTy).Contents (Elt F) → (⟨S1x16x2048x64, .f32⟩ : BufTy).Contents (Elt F)),
    binary main_v53 main_v53 main_v54 (mulf : (⟨S1x16x2048x64, .f32⟩ : BufTy).Contents (Elt F) → (⟨S1x16x2048x64, .f32⟩ : BufTy).Contents (Elt F) → (⟨S1x16x2048x64, .f32⟩ : BufTy).Contents (Elt F)),
    nullary main_cst_11 (constant S_ .f32 0x00000000#32),
    binary main_v54 main_cst_11 main_v55 ((fun x v => Host.reduceAdd x v reducesTo_S1x16x2048x64_S1x16x2048_d3 h_S_) : (⟨S1x16x2048x64, .f32⟩ : BufTy).Contents (Elt F) → (⟨S_, .f32⟩ : BufTy).Contents (Elt F) → (⟨S1x16x2048, .f32⟩ : BufTy).Contents (Elt F)),
    unary main_v55 main_v56 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    nullary main_cst_12 (constant S_ .f32 0x42800000#32),
    unary main_cst_12 main_v57 (broadcastInDim S1x16x2048x1 ![] bcast_S_S1x16x2048x1 : (⟨S_, .f32⟩ : BufTy).Contents (Elt F) → (⟨S1x16x2048x1, .f32⟩ : BufTy).Contents (Elt F)),
    binary main_v56 main_v57 main_v58 (Host.divf : (⟨S1x16x2048x1, .f32⟩ : BufTy).Contents (Elt F) → (⟨S1x16x2048x1, .f32⟩ : BufTy).Contents (Elt F) → (⟨S1x16x2048x1, .f32⟩ : BufTy).Contents (Elt F)),
    unary main_v51 main_v59 (broadcastInDim S1x16x2048x64 ![0, 1, 2, 3] bcast_S1x16x2048x1_S1x16x2048x64_0_1_2_3 : (⟨S1x16x2048x1, .f32⟩ : BufTy).Contents (Elt F) → (⟨S1x16x2048x64, .f32⟩ : BufTy).Contents (Elt F)),
    binary main_v47 main_v59 main_v60 (subf : (⟨S1x16x2048x64, .f32⟩ : BufTy).Contents (Elt F) → (⟨S1x16x2048x64, .f32⟩ : BufTy).Contents (Elt F) → (⟨S1x16x2048x64, .f32⟩ : BufTy).Contents (Elt F)),
    nullary main_cst_13 (constant S_ .f32 0x358637BD#32),
    unary main_cst_13 main_v61 (broadcastInDim S1x16x2048x1 ![] bcast_S_S1x16x2048x1 : (⟨S_, .f32⟩ : BufTy).Contents (Elt F) → (⟨S1x16x2048x1, .f32⟩ : BufTy).Contents (Elt F)),
    binary main_v58 main_v61 main_v62 (addf : (⟨S1x16x2048x1, .f32⟩ : BufTy).Contents (Elt F) → (⟨S1x16x2048x1, .f32⟩ : BufTy).Contents (Elt F) → (⟨S1x16x2048x1, .f32⟩ : BufTy).Contents (Elt F)),
    unary main_v62 main_v63 (Host.rsqrt : (⟨S1x16x2048x1, .f32⟩ : BufTy).Contents (Elt F) → (⟨S1x16x2048x1, .f32⟩ : BufTy).Contents (Elt F)),
    unary main_v63 main_v64 (broadcastInDim S1x16x2048x64 ![0, 1, 2, 3] bcast_S1x16x2048x1_S1x16x2048x64_0_1_2_3 : (⟨S1x16x2048x1, .f32⟩ : BufTy).Contents (Elt F) → (⟨S1x16x2048x64, .f32⟩ : BufTy).Contents (Elt F)),
    binary main_v60 main_v64 main_v65 (mulf : (⟨S1x16x2048x64, .f32⟩ : BufTy).Contents (Elt F) → (⟨S1x16x2048x64, .f32⟩ : BufTy).Contents (Elt F) → (⟨S1x16x2048x64, .f32⟩ : BufTy).Contents (Elt F)) ]

/-- What stage 4 writes. -/
abbrev st4_W : List (Ref sig .tc) := [main_v49, main_cst_10, main_v50, main_v51, main_v52, main_v53, main_v54, main_cst_11, main_v55, main_v56, main_cst_12, main_v57, main_v58, main_v59, main_v60, main_cst_13, main_v61, main_v62, main_v63, main_v64, main_v65]

/-- Stage 5: the operations up to `main_v70`. -/
abbrev st5 : List (HloOp τ sig (Elt F)) :=
  [ binary main_v23 main_arg12 main_v66 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)),
    reshape main_v66 main_v67 (rfl : (.f32 : EltTy) = .f32) shapeCasts_S1x2048x1024_S1x2048x16x64,
    unary main_v67 main_v68 ((transpose S1x16x2048x64 [0, 2, 1, 3] · transposes_S1x2048x16x64_S1x16x2048x64_0_2_1_3) : (⟨S1x2048x16x64, .f32⟩ : BufTy).Contents (Elt F) → (⟨S1x16x2048x64, .f32⟩ : BufTy).Contents (Elt F)),
    binary main_v23 main_arg13 main_v69 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)),
    TRef.unary (TRef.of (T := ⟨S1x2048x1024, .f32⟩) main_v69) (TRef.of (T := ⟨S1x2048x1024, .f32⟩) main_call0_v0) Host.negf,
    TRef.unary (TRef.of (T := ⟨S1x2048x1024, .f32⟩) main_call0_v0) (TRef.of (T := ⟨S1x2048x1024, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S1x2048x1024, .f32⟩) main_call0_v2) (broadcastInDim S1x2048x1024 ![] bcast_S_S1x2048x1024),
    TRef.binary (TRef.of (T := ⟨S1x2048x1024, .f32⟩) main_call0_v2) (TRef.of (T := ⟨S1x2048x1024, .f32⟩) main_call0_v1) (TRef.of (T := ⟨S1x2048x1024, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S1x2048x1024, .f32⟩) main_call0_v4) (broadcastInDim S1x2048x1024 ![] bcast_S_S1x2048x1024),
    TRef.binary (TRef.of (T := ⟨S1x2048x1024, .f32⟩) main_call0_v4) (TRef.of (T := ⟨S1x2048x1024, .f32⟩) main_call0_v3) (TRef.of (T := ⟨S1x2048x1024, .f32⟩) main_call0_v5) Host.divf,
    TRef.binary (TRef.of (T := ⟨S1x2048x1024, .f32⟩) main_v69) (TRef.of (T := ⟨S1x2048x1024, .f32⟩) main_call0_v5) (TRef.of (T := ⟨S1x2048x1024, .f32⟩) main_v70) mulf ]

/-- What stage 5 writes. -/
abbrev st5_W : List (Ref sig .tc) := [main_v66, main_v67, main_v68, main_v69, main_call0_v0, main_call0_v1, main_call0_cst, main_call0_v2, main_call0_v3, main_call0_cst_0, main_call0_v4, main_call0_v5, main_v70]

/-- Stage 6: the operations up to `main_v84`. -/
abbrev st6 : List (HloOp τ sig (Elt F)) :=
  [ binary main_v65 main_v65 main_v71 (mulf : (⟨S1x16x2048x64, .f32⟩ : BufTy).Contents (Elt F) → (⟨S1x16x2048x64, .f32⟩ : BufTy).Contents (Elt F) → (⟨S1x16x2048x64, .f32⟩ : BufTy).Contents (Elt F)),
    nullary main_cst_14 (constant S_ .f32 0x00000000#32),
    binary main_v71 main_cst_14 main_v72 ((fun x v => Host.reduceAdd x v reducesTo_S1x16x2048x64_S1x16x2048_d3 h_S_) : (⟨S1x16x2048x64, .f32⟩ : BufTy).Contents (Elt F) → (⟨S_, .f32⟩ : BufTy).Contents (Elt F) → (⟨S1x16x2048, .f32⟩ : BufTy).Contents (Elt F)),
    unary main_v72 main_v73 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    binary main_arg16 main_v65 main_v74 ((fun l r => Host.dotGeneral dot_S16x512x64_S1x16x2048x64_S16x512x1x2048_2_3_1_02_0_1 none l r) : (⟨S16x512x64, .f32⟩ : BufTy).Contents (Elt F) → (⟨S1x16x2048x64, .f32⟩ : BufTy).Contents (Elt F) → (⟨S16x512x1x2048, .f32⟩ : BufTy).Contents (Elt F)),
    unary main_v74 main_v75 ((transpose S1x16x2048x512 [2, 0, 3, 1] · transposes_S16x512x1x2048_S1x16x2048x512_2_0_3_1) : (⟨S16x512x1x2048, .f32⟩ : BufTy).Contents (Elt F) → (⟨S1x16x2048x512, .f32⟩ : BufTy).Contents (Elt F)),
    nullary main_cst_15 (constant S_ .f32 0x40000000#32),
    unary main_cst_15 main_v76 (broadcastInDim S1x16x2048x512 ![] bcast_S_S1x16x2048x512 : (⟨S_, .f32⟩ : BufTy).Contents (Elt F) → (⟨S1x16x2048x512, .f32⟩ : BufTy).Contents (Elt F)),
    binary main_v76 main_v75 main_v77 (mulf : (⟨S1x16x2048x512, .f32⟩ : BufTy).Contents (Elt F) → (⟨S1x16x2048x512, .f32⟩ : BufTy).Contents (Elt F) → (⟨S1x16x2048x512, .f32⟩ : BufTy).Contents (Elt F)),
    unary main_v73 main_v78 (broadcastInDim S1x16x2048x512 ![0, 1, 2, 3] bcast_S1x16x2048x1_S1x16x2048x512_0_1_2_3 : (⟨S1x16x2048x1, .f32⟩ : BufTy).Contents (Elt F) → (⟨S1x16x2048x512, .f32⟩ : BufTy).Contents (Elt F)),
    binary main_v78 main_v77 main_v79 (subf : (⟨S1x16x2048x512, .f32⟩ : BufTy).Contents (Elt F) → (⟨S1x16x2048x512, .f32⟩ : BufTy).Contents (Elt F) → (⟨S1x16x2048x512, .f32⟩ : BufTy).Contents (Elt F)),
    binary main_arg16 main_arg16 main_v80 (mulf : (⟨S16x512x64, .f32⟩ : BufTy).Contents (Elt F) → (⟨S16x512x64, .f32⟩ : BufTy).Contents (Elt F) → (⟨S16x512x64, .f32⟩ : BufTy).Contents (Elt F)),
    nullary main_cst_16 (constant S_ .f32 0x00000000#32),
    binary main_v80 main_cst_16 main_v81 ((fun x v => Host.reduceAdd x v reducesTo_S16x512x64_S16x512_d2 h_S_) : (⟨S16x512x64, .f32⟩ : BufTy).Contents (Elt F) → (⟨S_, .f32⟩ : BufTy).Contents (Elt F) → (⟨S16x512, .f32⟩ : BufTy).Contents (Elt F)),
    unary main_v81 main_v82 (broadcastInDim S1x16x1x512 ![1, 3] bcast_S16x512_S1x16x1x512_1_3 : (⟨S16x512, .f32⟩ : BufTy).Contents (Elt F) → (⟨S1x16x1x512, .f32⟩ : BufTy).Contents (Elt F)),
    unary main_v82 main_v83 (broadcastInDim S1x16x2048x512 ![0, 1, 2, 3] bcast_S1x16x1x512_S1x16x2048x512_0_1_2_3 : (⟨S1x16x1x512, .f32⟩ : BufTy).Contents (Elt F) → (⟨S1x16x2048x512, .f32⟩ : BufTy).Contents (Elt F)),
    binary main_v79 main_v83 main_v84 (addf : (⟨S1x16x2048x512, .f32⟩ : BufTy).Contents (Elt F) → (⟨S1x16x2048x512, .f32⟩ : BufTy).Contents (Elt F) → (⟨S1x16x2048x512, .f32⟩ : BufTy).Contents (Elt F)) ]

/-- What stage 6 writes. -/
abbrev st6_W : List (Ref sig .tc) := [main_v71, main_cst_14, main_v72, main_v73, main_v74, main_v75, main_cst_15, main_v76, main_v77, main_v78, main_v79, main_v80, main_cst_16, main_v81, main_v82, main_v83, main_v84]

/-- Stage 7: the operations up to `main_v85`. -/
abbrev st7 : List (HloOp τ sig (Elt F)) :=
  [ TRef.nullary (TRef.of (T := ⟨S1x16x2048x512, .i32⟩) main_call1_v0) (iotaInDim S1x16x2048x512 32 3),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S1x16x2048x512, .f32⟩) main_v84) (TRef.of (T := ⟨S1x16x2048x512, .i32⟩) main_call1_v0) (TRef.of (T := ⟨S_, .f32⟩) main_call1_cst) (TRef.of (T := ⟨S_, .i32⟩) main_call1_c) (TRef.of (T := ⟨S1x16x2048, .f32⟩) main_call1_v1_0) (fun x y u v j => (Host.argReduce reducer_argmin_f32_i32 x y u v reducesTo_S1x16x2048x512_S1x16x2048_d3 h_S_ j).1),
    TRef.quaternary (TRef.of (T := ⟨S1x16x2048x512, .f32⟩) main_v84) (TRef.of (T := ⟨S1x16x2048x512, .i32⟩) main_call1_v0) (TRef.of (T := ⟨S_, .f32⟩) main_call1_cst) (TRef.of (T := ⟨S_, .i32⟩) main_call1_c) (TRef.of (T := ⟨S1x16x2048, .i32⟩) main_v85) (fun x y u v j => (Host.argReduce reducer_argmin_f32_i32 x y u v reducesTo_S1x16x2048x512_S1x16x2048_d3 h_S_ j).2) ]

/-- What stage 7 writes. -/
abbrev st7_W : List (Ref sig .tc) := [main_call1_v0, main_call1_cst, main_call1_c, main_call1_v1_0, main_v85]

/-- Stage 8: the operations up to `main_v97`. -/
abbrev st8 : List (HloOp τ sig (Elt F)) :=
  [ nullary main_v86 (iotaInDim S16 32 0),
    reshape main_v86 main_v87 (rfl : (.i32 : EltTy) = .i32) shapeCasts_S16_S1x16x1,
    nullary main_c (constantI S_ 32 0#32),
    unary main_c main_v88 (broadcastInDim S1x16x1 ![] bcast_S_S1x16x1 : (⟨S_, .i32⟩ : BufTy).Contents (Elt F) → (⟨S1x16x1, .i32⟩ : BufTy).Contents (Elt F)),
    binary main_v87 main_v88 main_v89 (cmpi .slt : (⟨S1x16x1, .i32⟩ : BufTy).Contents (Elt F) → (⟨S1x16x1, .i32⟩ : BufTy).Contents (Elt F) → (⟨S1x16x1, .i1⟩ : BufTy).Contents (Elt F)),
    nullary main_c_17 (constantI S_ 32 16#32),
    unary main_c_17 main_v90 (broadcastInDim S1x16x1 ![] bcast_S_S1x16x1 : (⟨S_, .i32⟩ : BufTy).Contents (Elt F) → (⟨S1x16x1, .i32⟩ : BufTy).Contents (Elt F)),
    binary main_v87 main_v90 main_v91 (addi : (⟨S1x16x1, .i32⟩ : BufTy).Contents (Elt F) → (⟨S1x16x1, .i32⟩ : BufTy).Contents (Elt F) → (⟨S1x16x1, .i32⟩ : BufTy).Contents (Elt F)),
    ternary main_v89 main_v91 main_v87 main_v92 (select : (⟨S1x16x1, .i1⟩ : BufTy).Contents (Elt F) → (⟨S1x16x1, .i32⟩ : BufTy).Contents (Elt F) → (⟨S1x16x1, .i32⟩ : BufTy).Contents (Elt F) → (⟨S1x16x1, .i32⟩ : BufTy).Contents (Elt F)),
    nullary main_c_18 (constantI S_ 32 0#32),
    unary main_c_18 main_v93 (broadcastInDim S1x16x2048 ![] bcast_S_S1x16x2048 : (⟨S_, .i32⟩ : BufTy).Contents (Elt F) → (⟨S1x16x2048, .i32⟩ : BufTy).Contents (Elt F)),
    binary main_v85 main_v93 main_v94 (cmpi .slt : (⟨S1x16x2048, .i32⟩ : BufTy).Contents (Elt F) → (⟨S1x16x2048, .i32⟩ : BufTy).Contents (Elt F) → (⟨S1x16x2048, .i1⟩ : BufTy).Contents (Elt F)),
    nullary main_c_19 (constantI S_ 32 512#32),
    unary main_c_19 main_v95 (broadcastInDim S1x16x2048 ![] bcast_S_S1x16x2048 : (⟨S_, .i32⟩ : BufTy).Contents (Elt F) → (⟨S1x16x2048, .i32⟩ : BufTy).Contents (Elt F)),
    binary main_v85 main_v95 main_v96 (addi : (⟨S1x16x2048, .i32⟩ : BufTy).Contents (Elt F) → (⟨S1x16x2048, .i32⟩ : BufTy).Contents (Elt F) → (⟨S1x16x2048, .i32⟩ : BufTy).Contents (Elt F)),
    ternary main_v94 main_v96 main_v85 main_v97 (select : (⟨S1x16x2048, .i1⟩ : BufTy).Contents (Elt F) → (⟨S1x16x2048, .i32⟩ : BufTy).Contents (Elt F) → (⟨S1x16x2048, .i32⟩ : BufTy).Contents (Elt F) → (⟨S1x16x2048, .i32⟩ : BufTy).Contents (Elt F)) ]

/-- What stage 8 writes. -/
abbrev st8_W : List (Ref sig .tc) := [main_v86, main_v87, main_c, main_v88, main_v89, main_c_17, main_v90, main_v91, main_v92, main_c_18, main_v93, main_v94, main_c_19, main_v95, main_v96, main_v97]

/-- Stage 9: the operations up to `main_v107`. -/
abbrev st9 : List (HloOp τ sig (Elt F)) :=
  [ unary main_v92 main_v98 (broadcastInDim S1x16x2048 ![0, 1, 2] bcast_S1x16x1_S1x16x2048_0_1_2 : (⟨S1x16x1, .i32⟩ : BufTy).Contents (Elt F) → (⟨S1x16x2048, .i32⟩ : BufTy).Contents (Elt F)),
    unary main_v98 main_v99 (broadcastInDim S1x16x2048x1 ![0, 1, 2] bcast_S1x16x2048_S1x16x2048x1_0_1_2 : (⟨S1x16x2048, .i32⟩ : BufTy).Contents (Elt F) → (⟨S1x16x2048x1, .i32⟩ : BufTy).Contents (Elt F)),
    unary main_v97 main_v100 (broadcastInDim S1x16x2048x1 ![0, 1, 2] bcast_S1x16x2048_S1x16x2048x1_0_1_2 : (⟨S1x16x2048, .i32⟩ : BufTy).Contents (Elt F) → (⟨S1x16x2048x1, .i32⟩ : BufTy).Contents (Elt F)),
    binary main_v99 main_v100 main_v101 ((fun a b => concatenate S1x16x2048x2 3 [⟨S1x16x2048x1, a⟩, ⟨S1x16x2048x1, b⟩] concatenates_S1x16x2048x1_S1x16x2048x1_S1x16x2048x2_d3) : (⟨S1x16x2048x1, .i32⟩ : BufTy).Contents (Elt F) → (⟨S1x16x2048x1, .i32⟩ : BufTy).Contents (Elt F) → (⟨S1x16x2048x2, .i32⟩ : BufTy).Contents (Elt F)),
    binary main_arg16 main_v101 main_v102 ((fun x i => Host.gather gather_S16x512x64_S1x16x2048x2_S1x16x2048x64_3_01_n_n_01_3_1164 x i) : (⟨S16x512x64, .f32⟩ : BufTy).Contents (Elt F) → (⟨S1x16x2048x2, .i32⟩ : BufTy).Contents (Elt F) → (⟨S1x16x2048x64, .f32⟩ : BufTy).Contents (Elt F)),
    unary main_arg2 main_v103 (broadcastInDim S1x1x2048x1 ![0, 2] bcast_S1x2048_S1x1x2048x1_0_2 : (⟨S1x2048, .f32⟩ : BufTy).Contents (Elt F) → (⟨S1x1x2048x1, .f32⟩ : BufTy).Contents (Elt F)),
    nullary main_cst_20 (constant S_ .f32 0x00000000#32),
    binary main_v103 main_cst_20 main_v104 ((fun x v => Host.reduceAdd x v reducesTo_S1x1x2048x1_S_d0_1_2_3 h_S_) : (⟨S1x1x2048x1, .f32⟩ : BufTy).Contents (Elt F) → (⟨S_, .f32⟩ : BufTy).Contents (Elt F) → (⟨S_, .f32⟩ : BufTy).Contents (Elt F)),
    nullary main_cst_21 (constant S_ .f32 0x41800000#32),
    binary main_v104 main_cst_21 main_v105 (mulf : (⟨S_, .f32⟩ : BufTy).Contents (Elt F) → (⟨S_, .f32⟩ : BufTy).Contents (Elt F) → (⟨S_, .f32⟩ : BufTy).Contents (Elt F)),
    nullary main_cst_22 (constant S_ .f32 0x42800000#32),
    binary main_v105 main_cst_22 main_v106 (mulf : (⟨S_, .f32⟩ : BufTy).Contents (Elt F) → (⟨S_, .f32⟩ : BufTy).Contents (Elt F) → (⟨S_, .f32⟩ : BufTy).Contents (Elt F)),
    nullary main_cst_23 (constant S_ .f32 0x322BCC77#32),
    binary main_v106 main_cst_23 main_v107 (addf : (⟨S_, .f32⟩ : BufTy).Contents (Elt F) → (⟨S_, .f32⟩ : BufTy).Contents (Elt F) → (⟨S_, .f32⟩ : BufTy).Contents (Elt F)) ]

/-- What stage 9 writes. -/
abbrev st9_W : List (Ref sig .tc) := [main_v98, main_v99, main_v100, main_v101, main_v102, main_v103, main_cst_20, main_v104, main_cst_21, main_v105, main_cst_22, main_v106, main_cst_23, main_v107]

/-- Stage 10: the operations up to `main_v119`. -/
abbrev st10 : List (HloOp τ sig (Elt F)) :=
  [ binary main_v65 main_v102 main_v108 (subf : (⟨S1x16x2048x64, .f32⟩ : BufTy).Contents (Elt F) → (⟨S1x16x2048x64, .f32⟩ : BufTy).Contents (Elt F) → (⟨S1x16x2048x64, .f32⟩ : BufTy).Contents (Elt F)),
    binary main_v108 main_v108 main_v109 (mulf : (⟨S1x16x2048x64, .f32⟩ : BufTy).Contents (Elt F) → (⟨S1x16x2048x64, .f32⟩ : BufTy).Contents (Elt F) → (⟨S1x16x2048x64, .f32⟩ : BufTy).Contents (Elt F)),
    unary main_v103 main_v110 (broadcastInDim S1x16x2048x64 ![0, 1, 2, 3] bcast_S1x1x2048x1_S1x16x2048x64_0_1_2_3 : (⟨S1x1x2048x1, .f32⟩ : BufTy).Contents (Elt F) → (⟨S1x16x2048x64, .f32⟩ : BufTy).Contents (Elt F)),
    binary main_v109 main_v110 main_v111 (mulf : (⟨S1x16x2048x64, .f32⟩ : BufTy).Contents (Elt F) → (⟨S1x16x2048x64, .f32⟩ : BufTy).Contents (Elt F) → (⟨S1x16x2048x64, .f32⟩ : BufTy).Contents (Elt F)),
    nullary main_cst_24 (constant S_ .f32 0x00000000#32),
    binary main_v111 main_cst_24 main_v112 ((fun x v => Host.reduceAdd x v reducesTo_S1x16x2048x64_S_d0_1_2_3 h_S_) : (⟨S1x16x2048x64, .f32⟩ : BufTy).Contents (Elt F) → (⟨S_, .f32⟩ : BufTy).Contents (Elt F) → (⟨S_, .f32⟩ : BufTy).Contents (Elt F)),
    binary main_v112 main_v107 main_v113 (Host.divf : (⟨S_, .f32⟩ : BufTy).Contents (Elt F) → (⟨S_, .f32⟩ : BufTy).Contents (Elt F) → (⟨S_, .f32⟩ : BufTy).Contents (Elt F)),
    binary main_v65 main_v102 main_v114 (subf : (⟨S1x16x2048x64, .f32⟩ : BufTy).Contents (Elt F) → (⟨S1x16x2048x64, .f32⟩ : BufTy).Contents (Elt F) → (⟨S1x16x2048x64, .f32⟩ : BufTy).Contents (Elt F)),
    binary main_v114 main_v114 main_v115 (mulf : (⟨S1x16x2048x64, .f32⟩ : BufTy).Contents (Elt F) → (⟨S1x16x2048x64, .f32⟩ : BufTy).Contents (Elt F) → (⟨S1x16x2048x64, .f32⟩ : BufTy).Contents (Elt F)),
    unary main_v103 main_v116 (broadcastInDim S1x16x2048x64 ![0, 1, 2, 3] bcast_S1x1x2048x1_S1x16x2048x64_0_1_2_3 : (⟨S1x1x2048x1, .f32⟩ : BufTy).Contents (Elt F) → (⟨S1x16x2048x64, .f32⟩ : BufTy).Contents (Elt F)),
    binary main_v115 main_v116 main_v117 (mulf : (⟨S1x16x2048x64, .f32⟩ : BufTy).Contents (Elt F) → (⟨S1x16x2048x64, .f32⟩ : BufTy).Contents (Elt F) → (⟨S1x16x2048x64, .f32⟩ : BufTy).Contents (Elt F)),
    nullary main_cst_25 (constant S_ .f32 0x00000000#32),
    binary main_v117 main_cst_25 main_v118 ((fun x v => Host.reduceAdd x v reducesTo_S1x16x2048x64_S_d0_1_2_3 h_S_) : (⟨S1x16x2048x64, .f32⟩ : BufTy).Contents (Elt F) → (⟨S_, .f32⟩ : BufTy).Contents (Elt F) → (⟨S_, .f32⟩ : BufTy).Contents (Elt F)),
    binary main_v118 main_v107 main_v119 (Host.divf : (⟨S_, .f32⟩ : BufTy).Contents (Elt F) → (⟨S_, .f32⟩ : BufTy).Contents (Elt F) → (⟨S_, .f32⟩ : BufTy).Contents (Elt F)) ]

/-- What stage 10 writes. -/
abbrev st10_W : List (Ref sig .tc) := [main_v108, main_v109, main_v110, main_v111, main_cst_24, main_v112, main_v113, main_v114, main_v115, main_v116, main_v117, main_cst_25, main_v118, main_v119]

/-- Stage 11: the operations up to `main_v123`. -/
abbrev st11 : List (HloOp τ sig (Elt F)) :=
  [ binary main_v102 main_v65 main_v120 (subf : (⟨S1x16x2048x64, .f32⟩ : BufTy).Contents (Elt F) → (⟨S1x16x2048x64, .f32⟩ : BufTy).Contents (Elt F) → (⟨S1x16x2048x64, .f32⟩ : BufTy).Contents (Elt F)),
    binary main_v65 main_v120 main_v121 (addf : (⟨S1x16x2048x64, .f32⟩ : BufTy).Contents (Elt F) → (⟨S1x16x2048x64, .f32⟩ : BufTy).Contents (Elt F) → (⟨S1x16x2048x64, .f32⟩ : BufTy).Contents (Elt F)),
    binary main_arg3 main_v121 main_v122 ((fun a b => concatenate S1x16x2304x64 2 [⟨S1x16x256x64, a⟩, ⟨S1x16x2048x64, b⟩] concatenates_S1x16x256x64_S1x16x2048x64_S1x16x2304x64_d2) : (⟨S1x16x256x64, .f32⟩ : BufTy).Contents (Elt F) → (⟨S1x16x2048x64, .f32⟩ : BufTy).Contents (Elt F) → (⟨S1x16x2304x64, .f32⟩ : BufTy).Contents (Elt F)),
    binary main_arg4 main_v68 main_v123 ((fun a b => concatenate S1x16x2304x64 2 [⟨S1x16x256x64, a⟩, ⟨S1x16x2048x64, b⟩] concatenates_S1x16x256x64_S1x16x2048x64_S1x16x2304x64_d2) : (⟨S1x16x256x64, .f32⟩ : BufTy).Contents (Elt F) → (⟨S1x16x2048x64, .f32⟩ : BufTy).Contents (Elt F) → (⟨S1x16x2304x64, .f32⟩ : BufTy).Contents (Elt F)) ]

/-- What stage 11 writes. -/
abbrev st11_W : List (Ref sig .tc) := [main_v120, main_v121, main_v122, main_v123]

/-- Stage 12: the operations up to `main_v144`. -/
abbrev st12 : List (HloOp τ sig (Elt F)) :=
  [ nullary main_v124 (iotaInDim S2048 32 0),
    unary main_arg7 main_v125 (broadcastInDim S2048 ![] bcast_S_S2048 : (⟨S_, .i32⟩ : BufTy).Contents (Elt F) → (⟨S2048, .i32⟩ : BufTy).Contents (Elt F)),
    binary main_v125 main_v124 main_v126 (addi : (⟨S2048, .i32⟩ : BufTy).Contents (Elt F) → (⟨S2048, .i32⟩ : BufTy).Contents (Elt F) → (⟨S2048, .i32⟩ : BufTy).Contents (Elt F)),
    nullary main_v127 (iotaInDim S256 32 0),
    nullary main_c_26 (constantI S_ 32 256#32),
    binary main_arg7 main_c_26 main_v128 (subi : (⟨S_, .i32⟩ : BufTy).Contents (Elt F) → (⟨S_, .i32⟩ : BufTy).Contents (Elt F) → (⟨S_, .i32⟩ : BufTy).Contents (Elt F)),
    unary main_v128 main_v129 (broadcastInDim S256 ![] bcast_S_S256 : (⟨S_, .i32⟩ : BufTy).Contents (Elt F) → (⟨S256, .i32⟩ : BufTy).Contents (Elt F)),
    binary main_v127 main_v129 main_v130 (addi : (⟨S256, .i32⟩ : BufTy).Contents (Elt F) → (⟨S256, .i32⟩ : BufTy).Contents (Elt F) → (⟨S256, .i32⟩ : BufTy).Contents (Elt F)),
    binary main_v130 main_v126 main_v131 ((fun a b => concatenate S2304 0 [⟨S256, a⟩, ⟨S2048, b⟩] concatenates_S256_S2048_S2304_d0) : (⟨S256, .i32⟩ : BufTy).Contents (Elt F) → (⟨S2048, .i32⟩ : BufTy).Contents (Elt F) → (⟨S2304, .i32⟩ : BufTy).Contents (Elt F)),
    binary main_arg6 main_arg1 main_v132 ((fun a b => concatenate S1x2304 1 [⟨S1x256, a⟩, ⟨S1x2048, b⟩] concatenates_S1x256_S1x2048_S1x2304_d1) : (⟨S1x256, .i32⟩ : BufTy).Contents (Elt F) → (⟨S1x2048, .i32⟩ : BufTy).Contents (Elt F) → (⟨S1x2304, .i32⟩ : BufTy).Contents (Elt F)),
    unary main_v131 main_v133 (broadcastInDim S1x2304 ![1] bcast_S2304_S1x2304_1 : (⟨S2304, .i32⟩ : BufTy).Contents (Elt F) → (⟨S1x2304, .i32⟩ : BufTy).Contents (Elt F)),
    unary main_v126 main_v134 (broadcastInDim S2048x1 ![0] bcast_S2048_S2048x1_0 : (⟨S2048, .i32⟩ : BufTy).Contents (Elt F) → (⟨S2048x1, .i32⟩ : BufTy).Contents (Elt F)),
    unary main_v133 main_v135 (broadcastInDim S2048x2304 ![0, 1] bcast_S1x2304_S2048x2304_0_1 : (⟨S1x2304, .i32⟩ : BufTy).Contents (Elt F) → (⟨S2048x2304, .i32⟩ : BufTy).Contents (Elt F)),
    unary main_v134 main_v136 (broadcastInDim S2048x2304 ![0, 1] bcast_S2048x1_S2048x2304_0_1 : (⟨S2048x1, .i32⟩ : BufTy).Contents (Elt F) → (⟨S2048x2304, .i32⟩ : BufTy).Contents (Elt F)),
    binary main_v135 main_v136 main_v137 (cmpi .sle : (⟨S2048x2304, .i32⟩ : BufTy).Contents (Elt F) → (⟨S2048x2304, .i32⟩ : BufTy).Contents (Elt F) → (⟨S2048x2304, .i1⟩ : BufTy).Contents (Elt F)),
    unary main_v132 main_v138 (broadcastInDim S1x1x2304 ![0, 2] bcast_S1x2304_S1x1x2304_0_2 : (⟨S1x2304, .i32⟩ : BufTy).Contents (Elt F) → (⟨S1x1x2304, .i32⟩ : BufTy).Contents (Elt F)),
    unary main_arg1 main_v139 (broadcastInDim S1x2048x1 ![0, 1] bcast_S1x2048_S1x2048x1_0_1 : (⟨S1x2048, .i32⟩ : BufTy).Contents (Elt F) → (⟨S1x2048x1, .i32⟩ : BufTy).Contents (Elt F)),
    unary main_v138 main_v140 (broadcastInDim S1x2048x2304 ![0, 1, 2] bcast_S1x1x2304_S1x2048x2304_0_1_2 : (⟨S1x1x2304, .i32⟩ : BufTy).Contents (Elt F) → (⟨S1x2048x2304, .i32⟩ : BufTy).Contents (Elt F)),
    unary main_v139 main_v141 (broadcastInDim S1x2048x2304 ![0, 1, 2] bcast_S1x2048x1_S1x2048x2304_0_1_2 : (⟨S1x2048x1, .i32⟩ : BufTy).Contents (Elt F) → (⟨S1x2048x2304, .i32⟩ : BufTy).Contents (Elt F)),
    binary main_v140 main_v141 main_v142 (cmpi .eq : (⟨S1x2048x2304, .i32⟩ : BufTy).Contents (Elt F) → (⟨S1x2048x2304, .i32⟩ : BufTy).Contents (Elt F) → (⟨S1x2048x2304, .i1⟩ : BufTy).Contents (Elt F)),
    unary main_v137 main_v143 (broadcastInDim S1x2048x2304 ![1, 2] bcast_S2048x2304_S1x2048x2304_1_2 : (⟨S2048x2304, .i1⟩ : BufTy).Contents (Elt F) → (⟨S1x2048x2304, .i1⟩ : BufTy).Contents (Elt F)),
    binary main_v143 main_v142 main_v144 (andi : (⟨S1x2048x2304, .i1⟩ : BufTy).Contents (Elt F) → (⟨S1x2048x2304, .i1⟩ : BufTy).Contents (Elt F) → (⟨S1x2048x2304, .i1⟩ : BufTy).Contents (Elt F)) ]

/-- What stage 12 writes. -/
abbrev st12_W : List (Ref sig .tc) := [main_v124, main_v125, main_v126, main_v127, main_c_26, main_v128, main_v129, main_v130, main_v131, main_v132, main_v133, main_v134, main_v135, main_v136, main_v137, main_v138, main_v139, main_v140, main_v141, main_v142, main_v143, main_v144]

/-- Stage 13: the operations up to `main_v149`. -/
abbrev st13 : List (HloOp τ sig (Elt F)) :=
  [ unary main_arg15 main_v145 (broadcastInDim S1x16x1x64 ![1, 3] bcast_S16x64_S1x16x1x64_1_3 : (⟨S16x64, .f32⟩ : BufTy).Contents (Elt F) → (⟨S1x16x1x64, .f32⟩ : BufTy).Contents (Elt F)),
    unary main_v145 main_v146 (broadcastInDim S1x16x2048x64 ![0, 1, 2, 3] bcast_S1x16x1x64_S1x16x2048x64_0_1_2_3 : (⟨S1x16x1x64, .f32⟩ : BufTy).Contents (Elt F) → (⟨S1x16x2048x64, .f32⟩ : BufTy).Contents (Elt F)),
    binary main_v44 main_v146 main_v147 (addf : (⟨S1x16x2048x64, .f32⟩ : BufTy).Contents (Elt F) → (⟨S1x16x2048x64, .f32⟩ : BufTy).Contents (Elt F) → (⟨S1x16x2048x64, .f32⟩ : BufTy).Contents (Elt F)),
    binary main_v147 main_v122 main_v148 ((fun l r => Host.dotGeneral dot_S1x16x2048x64_S1x16x2304x64_S1x16x2048x2304_3_3_2_2_01_01 none l r) : (⟨S1x16x2048x64, .f32⟩ : BufTy).Contents (Elt F) → (⟨S1x16x2304x64, .f32⟩ : BufTy).Contents (Elt F) → (⟨S1x16x2048x2304, .f32⟩ : BufTy).Contents (Elt F)),
    nullary main_cst_27 (constant S_ .f32 0x41000000#32),
    unary main_cst_27 main_v149 (broadcastInDim S1x16x2048x2304 ![] bcast_S_S1x16x2048x2304 : (⟨S_, .f32⟩ : BufTy).Contents (Elt F) → (⟨S1x16x2048x2304, .f32⟩ : BufTy).Contents (Elt F)) ]

/-- What stage 13 writes. -/
abbrev st13_W : List (Ref sig .tc) := [main_v145, main_v146, main_v147, main_v148, main_cst_27, main_v149]

/-- Stage 14: the operations up to `main_v152`. -/
abbrev st14 : List (HloOp τ sig (Elt F)) :=
  [ binary main_v148 main_v149 main_v150 (Host.divf : (⟨S1x16x2048x2304, .f32⟩ : BufTy).Contents (Elt F) → (⟨S1x16x2048x2304, .f32⟩ : BufTy).Contents (Elt F) → (⟨S1x16x2048x2304, .f32⟩ : BufTy).Contents (Elt F)),
    unary main_v144 main_v151 (broadcastInDim S1x1x2048x2304 ![0, 2, 3] bcast_S1x2048x2304_S1x1x2048x2304_0_2_3 : (⟨S1x2048x2304, .i1⟩ : BufTy).Contents (Elt F) → (⟨S1x1x2048x2304, .i1⟩ : BufTy).Contents (Elt F)),
    nullary main_cst_28 (constant S_ .f32 0xFF800000#32),
    TRef.unary (TRef.of (T := ⟨S_, .f32⟩) main_cst_28) (TRef.of (T := ⟨S_, .f32⟩) main_call2_v0) id,
    TRef.unary (TRef.of (T := ⟨S1x1x2048x2304, .i1⟩) main_v151) (TRef.of (T := ⟨S1x16x2048x2304, .i1⟩) main_call2_v1) (broadcastInDim S1x16x2048x2304 ![0, 1, 2, 3] bcast_S1x1x2048x2304_S1x16x2048x2304_0_1_2_3),
    TRef.unary (TRef.of (T := ⟨S_, .f32⟩) main_call2_v0) (TRef.of (T := ⟨S1x16x2048x2304, .f32⟩) main_call2_v2) (broadcastInDim S1x16x2048x2304 ![] bcast_S_S1x16x2048x2304),
    TRef.ternary (TRef.of (T := ⟨S1x16x2048x2304, .i1⟩) main_call2_v1) (TRef.of (T := ⟨S1x16x2048x2304, .f32⟩) main_v150) (TRef.of (T := ⟨S1x16x2048x2304, .f32⟩) main_call2_v2) (TRef.of (T := ⟨S1x16x2048x2304, .f32⟩) main_v152) select ]

/-- What stage 14 writes. -/
abbrev st14_W : List (Ref sig .tc) := [main_v150, main_v151, main_cst_28, main_call2_v0, main_call2_v1, main_call2_v2, main_v152]

/-- Stage 15: the operations up to `main_v159`. -/
abbrev st15 : List (HloOp τ sig (Elt F)) :=
  [ nullary main_cst_29 (constant S_ .f32 0xFF800000#32),
    binary main_v152 main_cst_29 main_v153 ((fun x v => Host.reduce FloatOps.maximumf x v reducesTo_S1x16x2048x2304_S1x16x2048_d3 h_S_) : (⟨S1x16x2048x2304, .f32⟩ : BufTy).Contents (Elt F) → (⟨S_, .f32⟩ : BufTy).Contents (Elt F) → (⟨S1x16x2048, .f32⟩ : BufTy).Contents (Elt F)),
    nullary main_cst_30 (constant S_ .f32 0xFF800000#32),
    unary main_cst_30 main_v154 (broadcastInDim S1x16x2048 ![] bcast_S_S1x16x2048 : (⟨S_, .f32⟩ : BufTy).Contents (Elt F) → (⟨S1x16x2048, .f32⟩ : BufTy).Contents (Elt F)),
    binary main_v154 main_v153 main_v155 (maximumf : (⟨S1x16x2048, .f32⟩ : BufTy).Contents (Elt F) → (⟨S1x16x2048, .f32⟩ : BufTy).Contents (Elt F) → (⟨S1x16x2048, .f32⟩ : BufTy).Contents (Elt F)),
    unary main_v155 main_v156 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    unary main_v156 main_v157 (broadcastInDim S1x16x2048x2304 ![0, 1, 2, 3] bcast_S1x16x2048x1_S1x16x2048x2304_0_1_2_3 : (⟨S1x16x2048x1, .f32⟩ : BufTy).Contents (Elt F) → (⟨S1x16x2048x2304, .f32⟩ : BufTy).Contents (Elt F)),
    binary main_v152 main_v157 main_v158 (subf : (⟨S1x16x2048x2304, .f32⟩ : BufTy).Contents (Elt F) → (⟨S1x16x2048x2304, .f32⟩ : BufTy).Contents (Elt F) → (⟨S1x16x2048x2304, .f32⟩ : BufTy).Contents (Elt F)),
    unary main_v158 main_v159 (Host.exp : (⟨S1x16x2048x2304, .f32⟩ : BufTy).Contents (Elt F) → (⟨S1x16x2048x2304, .f32⟩ : BufTy).Contents (Elt F)) ]

/-- What stage 15 writes. -/
abbrev st15_W : List (Ref sig .tc) := [main_cst_29, main_v153, main_cst_30, main_v154, main_v155, main_v156, main_v157, main_v158, main_v159]

/-- Stage 16: the operations up to `main_v164`. -/
abbrev st16 : List (HloOp τ sig (Elt F)) :=
  [ nullary main_cst_31 (constant S_ .f32 0x00000000#32),
    binary main_v159 main_cst_31 main_v160 ((fun x v => Host.reduceAdd x v reducesTo_S1x16x2048x2304_S1x16x2048_d3 h_S_) : (⟨S1x16x2048x2304, .f32⟩ : BufTy).Contents (Elt F) → (⟨S_, .f32⟩ : BufTy).Contents (Elt F) → (⟨S1x16x2048, .f32⟩ : BufTy).Contents (Elt F)),
    unary main_v160 main_v161 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    unary main_v161 main_v162 (broadcastInDim S1x16x2048x2304 ![0, 1, 2, 3] bcast_S1x16x2048x1_S1x16x2048x2304_0_1_2_3 : (⟨S1x16x2048x1, .f32⟩ : BufTy).Contents (Elt F) → (⟨S1x16x2048x2304, .f32⟩ : BufTy).Contents (Elt F)),
    binary main_v159 main_v162 main_v163 (Host.divf : (⟨S1x16x2048x2304, .f32⟩ : BufTy).Contents (Elt F) → (⟨S1x16x2048x2304, .f32⟩ : BufTy).Contents (Elt F) → (⟨S1x16x2048x2304, .f32⟩ : BufTy).Contents (Elt F)),
    binary main_v163 main_v123 main_v164 ((fun l r => Host.dotGeneral dot_S1x16x2048x2304_S1x16x2304x64_S1x16x2048x64_3_2_2_3_01_01 none l r) : (⟨S1x16x2048x2304, .f32⟩ : BufTy).Contents (Elt F) → (⟨S1x16x2304x64, .f32⟩ : BufTy).Contents (Elt F) → (⟨S1x16x2048x64, .f32⟩ : BufTy).Contents (Elt F)) ]

/-- What stage 16 writes. -/
abbrev st16_W : List (Ref sig .tc) := [main_cst_31, main_v160, main_v161, main_v162, main_v163, main_v164]

/-- Stage 17: the operations up to `main_v168`. -/
abbrev st17 : List (HloOp τ sig (Elt F)) :=
  [ unary main_v164 main_v165 ((transpose S1x2048x16x64 [0, 2, 1, 3] · transposes_S1x16x2048x64_S1x2048x16x64_0_2_1_3) : (⟨S1x16x2048x64, .f32⟩ : BufTy).Contents (Elt F) → (⟨S1x2048x16x64, .f32⟩ : BufTy).Contents (Elt F)),
    reshape main_v165 main_v166 (rfl : (.f32 : EltTy) = .f32) shapeCasts_S1x2048x16x64_S1x2048x1024,
    binary main_v166 main_v70 main_v167 (mulf : (⟨S1x2048x1024, .f32⟩ : BufTy).Contents (Elt F) → (⟨S1x2048x1024, .f32⟩ : BufTy).Contents (Elt F) → (⟨S1x2048x1024, .f32⟩ : BufTy).Contents (Elt F)),
    binary main_v167 main_arg14 main_v168 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)) ]

/-- What stage 17 writes. -/
abbrev st17_W : List (Ref sig .tc) := [main_v165, main_v166, main_v167, main_v168]

theorem st1_writes : (st1 : List (HloOp τ sig (Elt F))).Forall fun op => op.writes ⊆ (st1_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem st1_sub : (st1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem st1_fresh : (st1 : List (HloOp τ sig (Elt F))).Forall fun op => op.fresh = ∅ := by
  simp only [List.Forall]; repeat' constructor

theorem st2_writes : (st2 : List (HloOp τ sig (Elt F))).Forall fun op => op.writes ⊆ (st2_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem st2_sub : (st2 : List (HloOp τ sig (Elt F))).Forall fun op => op.bufs ⊆ tcRefs τ sig :=
  ⟨binary_bufs_sub .., reshape_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub ..⟩

theorem st2_fresh : (st2 : List (HloOp τ sig (Elt F))).Forall fun op => op.fresh = ∅ := by
  simp only [List.Forall]; repeat' constructor

theorem st3_writes : (st3 : List (HloOp τ sig (Elt F))).Forall fun op => op.writes ⊆ (st3_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide)⟩

theorem st3_sub : (st3 : List (HloOp τ sig (Elt F))).Forall fun op => op.bufs ⊆ tcRefs τ sig :=
  ⟨binary_bufs_sub .., reshape_bufs_sub .., unary_bufs_sub .., nullary_bufs_sub .., binary_bufs_sub ..⟩

theorem st3_fresh : (st3 : List (HloOp τ sig (Elt F))).Forall fun op => op.fresh = ∅ := by
  simp only [List.Forall]; repeat' constructor

theorem st4_writes : (st4 : List (HloOp τ sig (Elt F))).Forall fun op => op.writes ⊆ (st4_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem st4_sub : (st4 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub ..⟩

theorem st4_fresh : (st4 : List (HloOp τ sig (Elt F))).Forall fun op => op.fresh = ∅ := by
  simp only [List.Forall]; repeat' constructor

theorem st5_writes : (st5 : List (HloOp τ sig (Elt F))).Forall fun op => op.writes ⊆ (st5_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem st5_sub : (st5 : List (HloOp τ sig (Elt F))).Forall fun op => op.bufs ⊆ tcRefs τ sig :=
  ⟨binary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

theorem st5_fresh : (st5 : List (HloOp τ sig (Elt F))).Forall fun op => op.fresh = ∅ := by
  simp only [List.Forall]; repeat' constructor

theorem st6_writes : (st6 : List (HloOp τ sig (Elt F))).Forall fun op => op.writes ⊆ (st6_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem st6_sub : (st6 : List (HloOp τ sig (Elt F))).Forall fun op => op.bufs ⊆ tcRefs τ sig :=
  ⟨binary_bufs_sub .., nullary_bufs_sub .., binary_bufs_sub .., unary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

theorem st6_fresh : (st6 : List (HloOp τ sig (Elt F))).Forall fun op => op.fresh = ∅ := by
  simp only [List.Forall]; repeat' constructor

theorem st7_writes : (st7 : List (HloOp τ sig (Elt F))).Forall fun op => op.writes ⊆ (st7_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide)⟩

theorem st7_sub : (st7 : List (HloOp τ sig (Elt F))).Forall fun op => op.bufs ⊆ tcRefs τ sig :=
  ⟨nullary_bufs_sub .., nullary_bufs_sub .., nullary_bufs_sub .., quaternary_bufs_sub .., quaternary_bufs_sub ..⟩

theorem st7_fresh : (st7 : List (HloOp τ sig (Elt F))).Forall fun op => op.fresh = ∅ := by
  simp only [List.Forall]; repeat' constructor

theorem st8_writes : (st8 : List (HloOp τ sig (Elt F))).Forall fun op => op.writes ⊆ (st8_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem st8_sub : (st8 : List (HloOp τ sig (Elt F))).Forall fun op => op.bufs ⊆ tcRefs τ sig :=
  ⟨nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

theorem st8_fresh : (st8 : List (HloOp τ sig (Elt F))).Forall fun op => op.fresh = ∅ := by
  simp only [List.Forall]; repeat' constructor

theorem st9_writes : (st9 : List (HloOp τ sig (Elt F))).Forall fun op => op.writes ⊆ (st9_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem st9_sub : (st9 : List (HloOp τ sig (Elt F))).Forall fun op => op.bufs ⊆ tcRefs τ sig :=
  ⟨unary_bufs_sub .., unary_bufs_sub .., unary_bufs_sub .., binary_bufs_sub .., binary_bufs_sub .., unary_bufs_sub .., nullary_bufs_sub .., binary_bufs_sub .., nullary_bufs_sub .., binary_bufs_sub .., nullary_bufs_sub .., binary_bufs_sub .., nullary_bufs_sub .., binary_bufs_sub ..⟩

theorem st9_fresh : (st9 : List (HloOp τ sig (Elt F))).Forall fun op => op.fresh = ∅ := by
  simp only [List.Forall]; repeat' constructor

theorem st10_writes : (st10 : List (HloOp τ sig (Elt F))).Forall fun op => op.writes ⊆ (st10_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem st10_sub : (st10 : List (HloOp τ sig (Elt F))).Forall fun op => op.bufs ⊆ tcRefs τ sig :=
  ⟨binary_bufs_sub .., binary_bufs_sub .., unary_bufs_sub .., binary_bufs_sub .., nullary_bufs_sub .., binary_bufs_sub .., binary_bufs_sub .., binary_bufs_sub .., binary_bufs_sub .., unary_bufs_sub .., binary_bufs_sub .., nullary_bufs_sub .., binary_bufs_sub .., binary_bufs_sub ..⟩

theorem st10_fresh : (st10 : List (HloOp τ sig (Elt F))).Forall fun op => op.fresh = ∅ := by
  simp only [List.Forall]; repeat' constructor

theorem st11_writes : (st11 : List (HloOp τ sig (Elt F))).Forall fun op => op.writes ⊆ (st11_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide)⟩

theorem st11_sub : (st11 : List (HloOp τ sig (Elt F))).Forall fun op => op.bufs ⊆ tcRefs τ sig :=
  ⟨binary_bufs_sub .., binary_bufs_sub .., binary_bufs_sub .., binary_bufs_sub ..⟩

theorem st11_fresh : (st11 : List (HloOp τ sig (Elt F))).Forall fun op => op.fresh = ∅ := by
  simp only [List.Forall]; repeat' constructor

theorem st12_writes : (st12 : List (HloOp τ sig (Elt F))).Forall fun op => op.writes ⊆ (st12_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem st12_sub : (st12 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., binary_bufs_sub .., binary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., binary_bufs_sub ..⟩

theorem st12_fresh : (st12 : List (HloOp τ sig (Elt F))).Forall fun op => op.fresh = ∅ := by
  simp only [List.Forall]; repeat' constructor

theorem st13_writes : (st13 : List (HloOp τ sig (Elt F))).Forall fun op => op.writes ⊆ (st13_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide)⟩

theorem st13_sub : (st13 : List (HloOp τ sig (Elt F))).Forall fun op => op.bufs ⊆ tcRefs τ sig :=
  ⟨unary_bufs_sub .., unary_bufs_sub .., binary_bufs_sub .., binary_bufs_sub .., nullary_bufs_sub .., unary_bufs_sub ..⟩

theorem st13_fresh : (st13 : List (HloOp τ sig (Elt F))).Forall fun op => op.fresh = ∅ := by
  simp only [List.Forall]; repeat' constructor

theorem st14_writes : (st14 : List (HloOp τ sig (Elt F))).Forall fun op => op.writes ⊆ (st14_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide)⟩

theorem st14_sub : (st14 : List (HloOp τ sig (Elt F))).Forall fun op => op.bufs ⊆ tcRefs τ sig :=
  ⟨binary_bufs_sub .., unary_bufs_sub .., nullary_bufs_sub .., unary_bufs_sub .., unary_bufs_sub .., unary_bufs_sub .., ternary_bufs_sub ..⟩

theorem st14_fresh : (st14 : List (HloOp τ sig (Elt F))).Forall fun op => op.fresh = ∅ := by
  simp only [List.Forall]; repeat' constructor

theorem st15_writes : (st15 : List (HloOp τ sig (Elt F))).Forall fun op => op.writes ⊆ (st15_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem st15_sub : (st15 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub ..⟩

theorem st15_fresh : (st15 : List (HloOp τ sig (Elt F))).Forall fun op => op.fresh = ∅ := by
  simp only [List.Forall]; repeat' constructor

theorem st16_writes : (st16 : List (HloOp τ sig (Elt F))).Forall fun op => op.writes ⊆ (st16_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide)⟩

theorem st16_sub : (st16 : List (HloOp τ sig (Elt F))).Forall fun op => op.bufs ⊆ tcRefs τ sig :=
  ⟨nullary_bufs_sub .., binary_bufs_sub .., unary_bufs_sub .., unary_bufs_sub .., binary_bufs_sub .., binary_bufs_sub ..⟩

theorem st16_fresh : (st16 : List (HloOp τ sig (Elt F))).Forall fun op => op.fresh = ∅ := by
  simp only [List.Forall]; repeat' constructor

theorem st17_writes : (st17 : List (HloOp τ sig (Elt F))).Forall fun op => op.writes ⊆ (st17_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide)⟩

theorem st17_sub : (st17 : List (HloOp τ sig (Elt F))).Forall fun op => op.bufs ⊆ tcRefs τ sig :=
  ⟨unary_bufs_sub .., reshape_bufs_sub .., binary_bufs_sub .., binary_bufs_sub ..⟩

theorem st17_fresh : (st17 : List (HloOp τ sig (Elt F))).Forall fun op => op.fresh = ∅ := by
  simp only [List.Forall]; repeat' constructor

/-- The operations of one window of the program. -/
def w_main_part0 : List (HloOp τ sig (Elt F)) := st1 ++ (st2 ++ (st3))

set_option maxHeartbeats 4000000 in
theorem main_part0_eq (c : Dev nD) : main_part0 (F := F) c = seq w_main_part0 := rfl

/-- The operations of one window of the program. -/
def w_main_part1 : List (HloOp τ sig (Elt F)) := st4 ++ (st5 ++ (st6 ++ (st7 ++ (st8))))

set_option maxHeartbeats 4000000 in
theorem main_part1_eq (c : Dev nD) : main_part1 (F := F) c = seq w_main_part1 := rfl

/-- The operations of one window of the program. -/
def w_main_part2 : List (HloOp τ sig (Elt F)) := st9 ++ (st10 ++ (st11 ++ (st12 ++ (st13))))

set_option maxHeartbeats 4000000 in
theorem main_part2_eq (c : Dev nD) : main_part2 (F := F) c = seq w_main_part2 := rfl

/-- The operations of one window of the program. -/
def w_main_part3 : List (HloOp τ sig (Elt F)) := st14 ++ (st15 ++ (st16 ++ (st17)))

set_option maxHeartbeats 4000000 in
theorem main_part3_eq (c : Dev nD) : main_part3 (F := F) c = seq w_main_part3 := rfl

/-- All the operations. -/
abbrev ops : List (HloOp τ sig (Elt F)) :=
  w_main_part0 ++ (w_main_part1 ++ (w_main_part2 ++ (w_main_part3)))

theorem main_eq (c : Dev nD) : main (F := F) c = seq ops := by
  rw [ops, seq_append, seq_append, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, w_main_part0, w_main_part1, w_main_part2, w_main_part3, List.forall_append]
  exact ⟨⟨st1_sub, st2_sub, st3_sub⟩, ⟨st4_sub, st5_sub, st6_sub, st7_sub, st8_sub⟩, ⟨st9_sub, st10_sub, st11_sub, st12_sub, st13_sub⟩, ⟨st14_sub, st15_sub, st16_sub, st17_sub⟩⟩

theorem ops_fresh : ∀ op ∈ (ops : List (HloOp τ sig (Elt F))), op.fresh = ∅ := by
  rw [← List.forall_iff_forall_mem]
  simp only [ops, w_main_part0, w_main_part1, w_main_part2, w_main_part3, List.forall_append]
  exact ⟨⟨st1_fresh, st2_fresh, st3_fresh⟩, ⟨st4_fresh, st5_fresh, st6_fresh, st7_fresh, st8_fresh⟩, ⟨st9_fresh, st10_fresh, st11_fresh, st12_fresh, st13_fresh⟩, ⟨st14_fresh, st15_fresh, st16_fresh, st17_fresh⟩⟩

/-- The contents before any operation. -/
abbrev L0 (V : Valuation τ sig (Elt F)) : Valuation τ sig (Elt F) := V

/-- The contents after stage 1. -/
def L1 (V : Valuation τ sig (Elt F)) : Valuation τ sig (Elt F) := after st1 (L0 V)

theorem L1_of (V : Valuation τ sig (Elt F)) (r : Ref sig .tc) (h : r ∉ st1_W) : L1 V (Proc.devRef .tc r) = L0 V (Proc.devRef .tc r) :=
  after_of_writes_sub st1 _ st1_writes h

/-- The contents after stage 2. -/
def L2 (V : Valuation τ sig (Elt F)) : Valuation τ sig (Elt F) := after st2 (L1 V)

theorem L2_of (V : Valuation τ sig (Elt F)) (r : Ref sig .tc) (h : r ∉ st2_W) : L2 V (Proc.devRef .tc r) = L1 V (Proc.devRef .tc r) :=
  after_of_writes_sub st2 _ st2_writes h

/-- The contents after stage 3. -/
def L3 (V : Valuation τ sig (Elt F)) : Valuation τ sig (Elt F) := after st3 (L2 V)

theorem L3_of (V : Valuation τ sig (Elt F)) (r : Ref sig .tc) (h : r ∉ st3_W) : L3 V (Proc.devRef .tc r) = L2 V (Proc.devRef .tc r) :=
  after_of_writes_sub st3 _ st3_writes h

/-- The contents after stage 4. -/
def L4 (V : Valuation τ sig (Elt F)) : Valuation τ sig (Elt F) := after st4 (L3 V)

theorem L4_of (V : Valuation τ sig (Elt F)) (r : Ref sig .tc) (h : r ∉ st4_W) : L4 V (Proc.devRef .tc r) = L3 V (Proc.devRef .tc r) :=
  after_of_writes_sub st4 _ st4_writes h

/-- The contents after stage 5. -/
def L5 (V : Valuation τ sig (Elt F)) : Valuation τ sig (Elt F) := after st5 (L4 V)

theorem L5_of (V : Valuation τ sig (Elt F)) (r : Ref sig .tc) (h : r ∉ st5_W) : L5 V (Proc.devRef .tc r) = L4 V (Proc.devRef .tc r) :=
  after_of_writes_sub st5 _ st5_writes h

/-- The contents after stage 6. -/
def L6 (V : Valuation τ sig (Elt F)) : Valuation τ sig (Elt F) := after st6 (L5 V)

theorem L6_of (V : Valuation τ sig (Elt F)) (r : Ref sig .tc) (h : r ∉ st6_W) : L6 V (Proc.devRef .tc r) = L5 V (Proc.devRef .tc r) :=
  after_of_writes_sub st6 _ st6_writes h

/-- The contents after stage 7. -/
def L7 (V : Valuation τ sig (Elt F)) : Valuation τ sig (Elt F) := after st7 (L6 V)

theorem L7_of (V : Valuation τ sig (Elt F)) (r : Ref sig .tc) (h : r ∉ st7_W) : L7 V (Proc.devRef .tc r) = L6 V (Proc.devRef .tc r) :=
  after_of_writes_sub st7 _ st7_writes h

/-- The contents after stage 8. -/
def L8 (V : Valuation τ sig (Elt F)) : Valuation τ sig (Elt F) := after st8 (L7 V)

theorem L8_of (V : Valuation τ sig (Elt F)) (r : Ref sig .tc) (h : r ∉ st8_W) : L8 V (Proc.devRef .tc r) = L7 V (Proc.devRef .tc r) :=
  after_of_writes_sub st8 _ st8_writes h

/-- The contents after stage 9. -/
def L9 (V : Valuation τ sig (Elt F)) : Valuation τ sig (Elt F) := after st9 (L8 V)

theorem L9_of (V : Valuation τ sig (Elt F)) (r : Ref sig .tc) (h : r ∉ st9_W) : L9 V (Proc.devRef .tc r) = L8 V (Proc.devRef .tc r) :=
  after_of_writes_sub st9 _ st9_writes h

/-- The contents after stage 10. -/
def L10 (V : Valuation τ sig (Elt F)) : Valuation τ sig (Elt F) := after st10 (L9 V)

theorem L10_of (V : Valuation τ sig (Elt F)) (r : Ref sig .tc) (h : r ∉ st10_W) : L10 V (Proc.devRef .tc r) = L9 V (Proc.devRef .tc r) :=
  after_of_writes_sub st10 _ st10_writes h

/-- The contents after stage 11. -/
def L11 (V : Valuation τ sig (Elt F)) : Valuation τ sig (Elt F) := after st11 (L10 V)

theorem L11_of (V : Valuation τ sig (Elt F)) (r : Ref sig .tc) (h : r ∉ st11_W) : L11 V (Proc.devRef .tc r) = L10 V (Proc.devRef .tc r) :=
  after_of_writes_sub st11 _ st11_writes h

/-- The contents after stage 12. -/
def L12 (V : Valuation τ sig (Elt F)) : Valuation τ sig (Elt F) := after st12 (L11 V)

theorem L12_of (V : Valuation τ sig (Elt F)) (r : Ref sig .tc) (h : r ∉ st12_W) : L12 V (Proc.devRef .tc r) = L11 V (Proc.devRef .tc r) :=
  after_of_writes_sub st12 _ st12_writes h

/-- The contents after stage 13. -/
def L13 (V : Valuation τ sig (Elt F)) : Valuation τ sig (Elt F) := after st13 (L12 V)

theorem L13_of (V : Valuation τ sig (Elt F)) (r : Ref sig .tc) (h : r ∉ st13_W) : L13 V (Proc.devRef .tc r) = L12 V (Proc.devRef .tc r) :=
  after_of_writes_sub st13 _ st13_writes h

/-- The contents after stage 14. -/
def L14 (V : Valuation τ sig (Elt F)) : Valuation τ sig (Elt F) := after st14 (L13 V)

theorem L14_of (V : Valuation τ sig (Elt F)) (r : Ref sig .tc) (h : r ∉ st14_W) : L14 V (Proc.devRef .tc r) = L13 V (Proc.devRef .tc r) :=
  after_of_writes_sub st14 _ st14_writes h

/-- The contents after stage 15. -/
def L15 (V : Valuation τ sig (Elt F)) : Valuation τ sig (Elt F) := after st15 (L14 V)

theorem L15_of (V : Valuation τ sig (Elt F)) (r : Ref sig .tc) (h : r ∉ st15_W) : L15 V (Proc.devRef .tc r) = L14 V (Proc.devRef .tc r) :=
  after_of_writes_sub st15 _ st15_writes h

/-- The contents after stage 16. -/
def L16 (V : Valuation τ sig (Elt F)) : Valuation τ sig (Elt F) := after st16 (L15 V)

theorem L16_of (V : Valuation τ sig (Elt F)) (r : Ref sig .tc) (h : r ∉ st16_W) : L16 V (Proc.devRef .tc r) = L15 V (Proc.devRef .tc r) :=
  after_of_writes_sub st16 _ st16_writes h

/-- The contents after stage 17. -/
def L17 (V : Valuation τ sig (Elt F)) : Valuation τ sig (Elt F) := after st17 (L16 V)

theorem L17_of (V : Valuation τ sig (Elt F)) (r : Ref sig .tc) (h : r ∉ st17_W) : L17 V (Proc.devRef .tc r) = L16 V (Proc.devRef .tc r) :=
  after_of_writes_sub st17 _ st17_writes h

theorem after_ops (V : Valuation τ sig (Elt F)) : after ops V = L17 V := by
  simp only [ops, w_main_part0, w_main_part1, w_main_part2, w_main_part3, after_append]
  rfl

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]
theorem args_kept (V : Valuation τ sig (Elt F)) : ∀ a ∈ argRefs, L17 V (Proc.devRef .tc a) = V (Proc.devRef .tc a) := by
  intro a ha
  rw [L17_of, L16_of, L15_of, L14_of, L13_of, L12_of, L11_of, L10_of, L9_of, L8_of, L7_of, L6_of, L5_of, L4_of, L3_of, L2_of, L1_of]
  all_goals revert a
  all_goals decide

/-- Every run ends with the results at what the operations leave and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168) = L17 (launchContents m c) (Proc.devRef .tc main_v168)
      ∧ r.2.mem ((c.tc : Thread nD τ).loc main_v113) = L17 (launchContents m c) (Proc.devRef .tc main_v113)
      ∧ r.2.mem ((c.tc : Thread nD τ).loc main_v119) = L17 (launchContents m c) (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v168).trans (congrFun (after_ops (launchContents m c)) (Proc.devRef .tc main_v168)),
      (h c main_v113).trans (congrFun (after_ops (launchContents m c)) (Proc.devRef .tc main_v113)),
      (h c main_v119).trans (congrFun (after_ops (launchContents m c)) (Proc.devRef .tc main_v119)),
      (h c main_arg0).trans ((congrFun (after_ops (launchContents m c)) (Proc.devRef .tc main_arg0)).trans (args_kept _ main_arg0 (by decide))),
      (h c main_arg1).trans ((congrFun (after_ops (launchContents m c)) (Proc.devRef .tc main_arg1)).trans (args_kept _ main_arg1 (by decide))),
      (h c main_arg2).trans ((congrFun (after_ops (launchContents m c)) (Proc.devRef .tc main_arg2)).trans (args_kept _ main_arg2 (by decide))),
      (h c main_arg3).trans ((congrFun (after_ops (launchContents m c)) (Proc.devRef .tc main_arg3)).trans (args_kept _ main_arg3 (by decide))),
      (h c main_arg4).trans ((congrFun (after_ops (launchContents m c)) (Proc.devRef .tc main_arg4)).trans (args_kept _ main_arg4 (by decide))),
      (h c main_arg5).trans ((congrFun (after_ops (launchContents m c)) (Proc.devRef .tc main_arg5)).trans (args_kept _ main_arg5 (by decide))),
      (h c main_arg6).trans ((congrFun (after_ops (launchContents m c)) (Proc.devRef .tc main_arg6)).trans (args_kept _ main_arg6 (by decide))),
      (h c main_arg7).trans ((congrFun (after_ops (launchContents m c)) (Proc.devRef .tc main_arg7)).trans (args_kept _ main_arg7 (by decide))),
      (h c main_arg8).trans ((congrFun (after_ops (launchContents m c)) (Proc.devRef .tc main_arg8)).trans (args_kept _ main_arg8 (by decide))),
      (h c main_arg9).trans ((congrFun (after_ops (launchContents m c)) (Proc.devRef .tc main_arg9)).trans (args_kept _ main_arg9 (by decide))),
      (h c main_arg10).trans ((congrFun (after_ops (launchContents m c)) (Proc.devRef .tc main_arg10)).trans (args_kept _ main_arg10 (by decide))),
      (h c main_arg11).trans ((congrFun (after_ops (launchContents m c)) (Proc.devRef .tc main_arg11)).trans (args_kept _ main_arg11 (by decide))),
      (h c main_arg12).trans ((congrFun (after_ops (launchContents m c)) (Proc.devRef .tc main_arg12)).trans (args_kept _ main_arg12 (by decide))),
      (h c main_arg13).trans ((congrFun (after_ops (launchContents m c)) (Proc.devRef .tc main_arg13)).trans (args_kept _ main_arg13 (by decide))),
      (h c main_arg14).trans ((congrFun (after_ops (launchContents m c)) (Proc.devRef .tc main_arg14)).trans (args_kept _ main_arg14 (by decide))),
      (h c main_arg15).trans ((congrFun (after_ops (launchContents m c)) (Proc.devRef .tc main_arg15)).trans (args_kept _ main_arg15 (by decide))),
      (h c main_arg16).trans ((congrFun (after_ops (launchContents m c)) (Proc.devRef .tc main_arg16)).trans (args_kept _ main_arg16 (by decide)))⟩)
    (run_seq scopedRefs_eq scopedSems_eq defs main (fun _ => ops) main_eq (fun _ => ops_sub) m ρ fun _ => ops_fresh)

end Cert.ReferenceIdeal.Val

end
-- ==== Proof.RVal.lean ====
module

public import proofs.«01_k».proof.Proof.ROps
public import proofs.«01_k».proof.Proof.Spec
public import proofs.«01_k».proof.Proof.Words
public import Idealize.ShloMosaic.Lib.StableHlo.ReadAt
public import Idealize.ShloMosaic.Lib.Pointwise
public import Idealize.ShloMosaic.Lib.ValueIdx

@[expose] public section

/-! The reference's values, in the formula's terms: the projections, their norms and the gate. -/

set_option maxRecDepth 16384

noncomputable section

namespace Cert.ReferenceIdeal.Val

open Cert.ReferenceIdeal Cert.ReferenceIdeal.Gen Idealize.ShloMosaic Idealize.ShloMosaic.TcCoe Idealize.SL.Sem

variable (V : Valuation τ sig (Elt Ideal))

theorem args_1 : ∀ a ∈ argRefs, L1 V (Proc.devRef .tc a) = V (Proc.devRef .tc a) := by
  intro a ha
  rw [L1_of]
  all_goals revert a
  all_goals decide
theorem args_2 : ∀ a ∈ argRefs, L2 V (Proc.devRef .tc a) = V (Proc.devRef .tc a) := by
  intro a ha
  rw [L2_of, L1_of]
  all_goals revert a
  all_goals decide
theorem args_3 : ∀ a ∈ argRefs, L3 V (Proc.devRef .tc a) = V (Proc.devRef .tc a) := by
  intro a ha
  rw [L3_of, L2_of, L1_of]
  all_goals revert a
  all_goals decide
theorem args_4 : ∀ a ∈ argRefs, L4 V (Proc.devRef .tc a) = V (Proc.devRef .tc a) := by
  intro a ha
  rw [L4_of, L3_of, L2_of, L1_of]
  all_goals revert a
  all_goals decide
theorem args_5 : ∀ a ∈ argRefs, L5 V (Proc.devRef .tc a) = V (Proc.devRef .tc a) := by
  intro a ha
  rw [L5_of, L4_of, L3_of, L2_of, L1_of]
  all_goals revert a
  all_goals decide
theorem args_6 : ∀ a ∈ argRefs, L6 V (Proc.devRef .tc a) = V (Proc.devRef .tc a) := by
  intro a ha
  rw [L6_of, L5_of, L4_of, L3_of, L2_of, L1_of]
  all_goals revert a
  all_goals decide
theorem args_7 : ∀ a ∈ argRefs, L7 V (Proc.devRef .tc a) = V (Proc.devRef .tc a) := by
  intro a ha
  rw [L7_of, L6_of, L5_of, L4_of, L3_of, L2_of, L1_of]
  all_goals revert a
  all_goals decide
theorem args_8 : ∀ a ∈ argRefs, L8 V (Proc.devRef .tc a) = V (Proc.devRef .tc a) := by
  intro a ha
  rw [L8_of, L7_of, L6_of, L5_of, L4_of, L3_of, L2_of, L1_of]
  all_goals revert a
  all_goals decide
theorem args_9 : ∀ a ∈ argRefs, L9 V (Proc.devRef .tc a) = V (Proc.devRef .tc a) := by
  intro a ha
  rw [L9_of, L8_of, L7_of, L6_of, L5_of, L4_of, L3_of, L2_of, L1_of]
  all_goals revert a
  all_goals decide
theorem args_10 : ∀ a ∈ argRefs, L10 V (Proc.devRef .tc a) = V (Proc.devRef .tc a) := by
  intro a ha
  rw [L10_of, L9_of, L8_of, L7_of, L6_of, L5_of, L4_of, L3_of, L2_of, L1_of]
  all_goals revert a
  all_goals decide
theorem args_11 : ∀ a ∈ argRefs, L11 V (Proc.devRef .tc a) = V (Proc.devRef .tc a) := by
  intro a ha
  rw [L11_of, L10_of, L9_of, L8_of, L7_of, L6_of, L5_of, L4_of, L3_of, L2_of, L1_of]
  all_goals revert a
  all_goals decide
theorem args_12 : ∀ a ∈ argRefs, L12 V (Proc.devRef .tc a) = V (Proc.devRef .tc a) := by
  intro a ha
  rw [L12_of, L11_of, L10_of, L9_of, L8_of, L7_of, L6_of, L5_of, L4_of, L3_of, L2_of, L1_of]
  all_goals revert a
  all_goals decide
theorem args_13 : ∀ a ∈ argRefs, L13 V (Proc.devRef .tc a) = V (Proc.devRef .tc a) := by
  intro a ha
  rw [L13_of, L12_of, L11_of, L10_of, L9_of, L8_of, L7_of, L6_of, L5_of, L4_of, L3_of, L2_of, L1_of]
  all_goals revert a
  all_goals decide
theorem args_14 : ∀ a ∈ argRefs, L14 V (Proc.devRef .tc a) = V (Proc.devRef .tc a) := by
  intro a ha
  rw [L14_of, L13_of, L12_of, L11_of, L10_of, L9_of, L8_of, L7_of, L6_of, L5_of, L4_of, L3_of, L2_of, L1_of]
  all_goals revert a
  all_goals decide
theorem args_15 : ∀ a ∈ argRefs, L15 V (Proc.devRef .tc a) = V (Proc.devRef .tc a) := by
  intro a ha
  rw [L15_of, L14_of, L13_of, L12_of, L11_of, L10_of, L9_of, L8_of, L7_of, L6_of, L5_of, L4_of, L3_of, L2_of, L1_of]
  all_goals revert a
  all_goals decide
theorem args_16 : ∀ a ∈ argRefs, L16 V (Proc.devRef .tc a) = V (Proc.devRef .tc a) := by
  intro a ha
  rw [L16_of, L15_of, L14_of, L13_of, L12_of, L11_of, L10_of, L9_of, L8_of, L7_of, L6_of, L5_of, L4_of, L3_of, L2_of, L1_of]
  all_goals revert a
  all_goals decide

/-- The reference's arguments, by coordinates. -/
def inpR : Spec.Inp where
  x s d := V (Proc.devRef .tc main_arg0) (ix3 0 s d)
  g d := V (Proc.devRef .tc main_arg8) (ix1 d)
  b d := V (Proc.devRef .tc main_arg9) (ix1 d)
  wq d e := V (Proc.devRef .tc main_arg10) (ix2 d e)
  wk d e := V (Proc.devRef .tc main_arg11) (ix2 d e)
  wv d e := V (Proc.devRef .tc main_arg12) (ix2 d e)
  wg d e := V (Proc.devRef .tc main_arg13) (ix2 d e)
  wr d e := V (Proc.devRef .tc main_arg14) (ix2 d e)
  xu h d := V (Proc.devRef .tc main_arg15) (ix2 h d)
  cb h k d := V (Proc.devRef .tc main_arg16) (ix3 h k d)
  xk h t d := V (Proc.devRef .tc main_arg3) (ix4 0 h t d)
  xv h t d := V (Proc.devRef .tc main_arg4) (ix4 0 h t d)
  lm s := V (Proc.devRef .tc main_arg2) (ix2 0 s)

theorem r23 (s : Fin 2048) (d : Fin 1024) : L1 V (Proc.devRef .tc main_v23) (ix3 0 s d) = Spec.xt (inpR V) s d := by
  unfold L1
  after_reads_at
  rfl

/-- A projection's row as the reference reads it. -/
def prR (x : FVec Ideal S1x2048x1024 .f32) (w : FVec Ideal S1024x1024 .f32) (s : Fin 2048) (e : Fin 1024) : EReal := ∑ d : Fin 1024, x (ix3 0 s d) * w (ix2 d e)

theorem prR_eq {x : FVec Ideal S1x2048x1024 .f32} {w : FVec Ideal S1024x1024 .f32} {W : Fin 1024 → Fin 1024 → EReal}
    (hx : ∀ s d, x (ix3 0 s d) = Spec.xt (inpR V) s d) (hw : ∀ d e, w (ix2 d e) = W d e) (s : Fin 2048) (e : Fin 1024) : prR x w s e = Spec.pr (inpR V) W s e := by
  unfold prR Spec.pr
  exact Finset.sum_congr rfl fun d _ => congrArg₂ (fun a b : EReal => a * b) (hx s d) (hw d e)

theorem o44 (h : Fin 16) (s : Fin 2048) (d : Fin 64) : L2 V (Proc.devRef .tc main_v44) (ix4 0 h s d) =
    Spec.nrm Spec.c64 (fun d => prR (L1 V (Proc.devRef .tc main_v23)) (L1 V (Proc.devRef .tc main_arg10)) s (Spec.hcol h d)) d := by
  unfold L2
  after_reads_at
  rfl
theorem o47 (h : Fin 16) (s : Fin 2048) (d : Fin 64) : L3 V (Proc.devRef .tc main_v47) (ix4 0 h s d) =
    prR (L2 V (Proc.devRef .tc main_v23)) (L2 V (Proc.devRef .tc main_arg11)) s (Spec.hcol h d) := by
  unfold L3
  after_reads_at
  rfl
theorem o48 (h : Fin 16) (s : Fin 2048) : L3 V (Proc.devRef .tc main_v48) (ix3 0 h s) =
    ∑ d : Fin 64, prR (L2 V (Proc.devRef .tc main_v23)) (L2 V (Proc.devRef .tc main_arg11)) s (Spec.hcol h d) := by
  unfold L3
  after_reads_at
  rfl
/-- A row's norm from the row and its sum. -/
def nrmS (r : Fin 64 → EReal) (S : EReal) (d : Fin 64) : EReal :=
  (r d - Ideal.div S Spec.c64) * Ideal.rsqrt (Ideal.div (∑ x, (r x - Ideal.div S Spec.c64) * (r x - Ideal.div S Spec.c64)) Spec.c64 + Spec.eps)
theorem o65 (h : Fin 16) (s : Fin 2048) (d : Fin 64) : L4 V (Proc.devRef .tc main_v65) (ix4 0 h s d) =
    nrmS (fun d => L3 V (Proc.devRef .tc main_v47) (ix4 0 h s d)) (L3 V (Proc.devRef .tc main_v48) (ix3 0 h s)) d := by
  unfold L4
  after_reads_at
  rfl
theorem o68 (h : Fin 16) (s : Fin 2048) (d : Fin 64) : L5 V (Proc.devRef .tc main_v68) (ix4 0 h s d) =
    prR (L4 V (Proc.devRef .tc main_v23)) (L4 V (Proc.devRef .tc main_arg12)) s (Spec.hcol h d) := by
  unfold L5
  after_reads_at
  rfl
theorem o70 (s : Fin 2048) (e : Fin 1024) : L5 V (Proc.devRef .tc main_v70) (ix3 0 s e) =
    prR (L4 V (Proc.devRef .tc main_v23)) (L4 V (Proc.devRef .tc main_arg13)) s e *
      Ideal.div 1 (1 + Ideal.exp (- prR (L4 V (Proc.devRef .tc main_v23)) (L4 V (Proc.devRef .tc main_arg13)) s e)) := by
  unfold L5
  after_reads_at
  rfl

theorem r23_2 (s : Fin 2048) (d : Fin 1024) : L2 V (Proc.devRef .tc main_v23) (ix3 0 s d) = Spec.xt (inpR V) s d :=
  (congrFun (L2_of V main_v23 (by decide)) _).trans (r23 V s d)
theorem r23_4 (s : Fin 2048) (d : Fin 1024) : L4 V (Proc.devRef .tc main_v23) (ix3 0 s d) = Spec.xt (inpR V) s d :=
  (congrFun ((L4_of V main_v23 (by decide)).trans (L3_of V main_v23 (by decide))) _).trans (r23_2 V s d)

/-- The normed queries. -/
theorem r44 (h : Fin 16) (s : Fin 2048) (d : Fin 64) : L2 V (Proc.devRef .tc main_v44) (ix4 0 h s d) =
    Spec.nrm Spec.c64 (fun d => Spec.pr (inpR V) (inpR V).wq s (Spec.hcol h d)) d := by
  refine (o44 V h s d).trans (congrArg (fun r => Spec.nrm Spec.c64 r d) (funext fun d => ?_))
  exact prR_eq V (r23 V) (fun d e => congrFun (args_1 V main_arg10 (by decide)) _) s _
/-- The keys. -/
theorem r65 (h : Fin 16) (s : Fin 2048) (d : Fin 64) : L4 V (Proc.devRef .tc main_v65) (ix4 0 h s d) = Spec.ky (inpR V) h s d := by
  have e : ∀ d, prR (L2 V (Proc.devRef .tc main_v23)) (L2 V (Proc.devRef .tc main_arg11)) s (Spec.hcol h d) = Spec.pr (inpR V) (inpR V).wk s (Spec.hcol h d) :=
    fun d => prR_eq V (r23_2 V) (fun d e => congrFun (args_2 V main_arg11 (by decide)) _) s _
  refine (o65 V h s d).trans ?_
  have e1 : (fun d : Fin 64 => (L3 V (Proc.devRef .tc main_v47) (ix4 0 h s d) : EReal)) = fun d => Spec.pr (inpR V) (inpR V).wk s (Spec.hcol h d) :=
    funext fun d => (o47 V h s d).trans (e d)
  have e2 : @Eq EReal (L3 V (Proc.devRef .tc main_v48) (ix3 0 h s)) (∑ d, Spec.pr (inpR V) (inpR V).wk s (Spec.hcol h d)) :=
    (o48 V h s).trans (Finset.sum_congr (M := EReal) rfl fun d _ => e d)
  exact congrArg₂ (fun r S => nrmS r S d) e1 e2
/-- The values. -/
theorem r68 (h : Fin 16) (s : Fin 2048) (d : Fin 64) : L5 V (Proc.devRef .tc main_v68) (ix4 0 h s d) = Spec.vl (inpR V) h s d :=
  (o68 V h s d).trans (prR_eq V (r23_4 V) (fun d e => congrFun (args_4 V main_arg12 (by decide)) _) s _)
/-- The gate. -/
theorem r70 (s : Fin 2048) (e : Fin 1024) : L5 V (Proc.devRef .tc main_v70) (ix3 0 s e) = Spec.gt (inpR V) s e := by
  refine (o70 V s e).trans ?_
  exact congrArg (fun p : EReal => p * Ideal.div 1 (1 + Ideal.exp (-p))) (prR_eq V (r23_4 V) (fun d e => congrFun (args_4 V main_arg13 (by decide)) _) s e)

end Cert.ReferenceIdeal.Val
end
-- ==== Proof.RArg.lean ====
module

public import proofs.«01_k».proof.Proof.ROps
public import proofs.«01_k».proof.Proof.Spec
public import proofs.«01_k».proof.Proof.Words
public import Idealize.ShloMosaic.Lib.StableHlo.ReadAt
public import Idealize.ShloMosaic.Lib.Pointwise
public import Idealize.ShloMosaic.Lib.ValueIdx

@[expose] public section

/-! The reference's values, in the formula's terms: the nearest codeword's place. -/

set_option maxRecDepth 16384

noncomputable section

namespace Cert.ReferenceIdeal.Val

open Cert.ReferenceIdeal Cert.ReferenceIdeal.Gen Idealize.ShloMosaic Idealize.ShloMosaic.TcCoe Idealize.SL.Sem

/-- A value with its place, ordered by the value and then by the place. -/
def lexKey (p : EReal × BitVec 32) : EReal ×ₗ ℤ := toLex (p.1, p.2.toInt)

theorem red_key (a b : EReal × BitVec 32) :
    (reducer_argmin_f32_i32 (F := Ideal) a b = a ∧ lexKey a ≤ lexKey b) ∨ (reducer_argmin_f32_i32 (F := Ideal) a b = b ∧ lexKey b ≤ lexKey a) := by
  obtain ⟨x, i⟩ := a
  obtain ⟨y, k⟩ := b
  have hs : (IntOp.cmpi CmpIPredicate.slt i k : BitVec 1) = if i.toInt < k.toInt then 1#1 else 0#1 := by
    unfold IntOp.cmpi
    simp only [BitVec.slt]
    by_cases h : i.toInt < k.toInt <;> simp [h]
  have hl : ∀ u v : EReal, (FloatOps.cmpf (F := Ideal) (φ := .f32) .olt u v : BitVec 1) = if u < v then 1#1 else 0#1 := by
    intro u v
    rw [Ideal.cmpf_def]
    by_cases h : u < v <;> simp [Ideal.cmp, h]
  have hn : ∀ u : EReal, (FloatOps.cmpf (F := Ideal) (φ := .f32) .une u u : BitVec 1) = 0#1 := by
    intro u
    rw [Ideal.cmpf_def]
    simp [Ideal.cmp]
  have he : ∀ u v : EReal, (FloatOps.cmpf (F := Ideal) (φ := .f32) .oeq u v : BitVec 1) = if u = v then 1#1 else 0#1 := by
    intro u v
    rw [Ideal.cmpf_def]
    by_cases h : u = v <;> simp [Ideal.cmp, h]
  unfold reducer_argmin_f32_i32 lexKey
  simp only [hs, hl, hn, he]
  rcases lt_trichotomy x y with h | h | h
  · left
    rw [if_pos h, if_neg h.ne]
    refine ⟨by simp [IntOp.ori, IntOp.andi, Scalar.select], ?_⟩
    exact (Prod.Lex.toLex_le_toLex).2 (Or.inl h)
  · subst h
    rw [if_neg (lt_irrefl _), if_pos rfl]
    by_cases hk : i.toInt < k.toInt
    · left
      rw [if_pos hk]
      refine ⟨by simp [IntOp.ori, IntOp.andi, Scalar.select], ?_⟩
      exact (Prod.Lex.toLex_le_toLex).2 (Or.inr ⟨rfl, hk.le⟩)
    · right
      rw [if_neg hk]
      refine ⟨by simp [IntOp.ori, IntOp.andi, Scalar.select], ?_⟩
      exact (Prod.Lex.toLex_le_toLex).2 (Or.inr ⟨rfl, not_lt.1 hk⟩)
  · right
    rw [if_neg h.not_gt, if_neg h.ne']
    refine ⟨by simp [IntOp.ori, IntOp.andi, Scalar.select], ?_⟩
    exact (Prod.Lex.toLex_le_toLex).2 (Or.inl h)

/-- The fold of the reducer is a least pair of those it meets. -/
theorem fold_red (l : List (EReal × BitVec 32)) (p : EReal × BitVec 32) :
    (l.foldl (reducer_argmin_f32_i32 (F := Ideal)) p = p ∨ l.foldl (reducer_argmin_f32_i32 (F := Ideal)) p ∈ l)
      ∧ lexKey (l.foldl (reducer_argmin_f32_i32 (F := Ideal)) p) ≤ lexKey p
      ∧ ∀ q ∈ l, lexKey (l.foldl (reducer_argmin_f32_i32 (F := Ideal)) p) ≤ lexKey q := by
  induction l generalizing p with
  | nil => exact ⟨Or.inl rfl, le_refl _, fun q hq => absurd hq (by simp)⟩
  | cons a l ih =>
    rw [List.foldl_cons]
    obtain ⟨h1, h2, h3⟩ := ih (reducer_argmin_f32_i32 (F := Ideal) p a)
    rcases red_key p a with ⟨e, hle⟩ | ⟨e, hle⟩
    · rw [e] at h1 h2 h3 ⊢
      refine ⟨h1.imp id fun h => List.mem_cons_of_mem _ h, h2, fun q hq => ?_⟩
      rcases List.mem_cons.1 hq with rfl | hq
      · exact h2.trans hle
      · exact h3 q hq
    · rw [e] at h1 h2 h3 ⊢
      refine ⟨Or.inr (h1.elim (fun h => List.mem_cons.2 (Or.inl h)) fun h => List.mem_cons_of_mem _ h), h2.trans hle, fun q hq => ?_⟩
      rcases List.mem_cons.1 hq with rfl | hq
      · exact h2
      · exact h3 q hq

/-- Over the pairs of a row with its places it is the first least value's. -/
theorem fold_red_amin (l : List (EReal × BitVec 32)) (f : Fin 512 → EReal) (h1 : ∀ q ∈ l, ∃ k : Fin 512, q = (f k, BitVec.ofNat 32 k.val))
    (h2 : ∀ k : Fin 512, (f k, BitVec.ofNat 32 k.val) ∈ l) :
    (l.foldl (reducer_argmin_f32_i32 (F := Ideal)) ((⊤ : EReal), 0#32)).2 = BitVec.ofNat 32 (Spec.amin f).val := by
  obtain ⟨g1, g2, g3⟩ := fold_red l ((⊤ : EReal), 0#32)
  generalize l.foldl (reducer_argmin_f32_i32 (F := Ideal)) ((⊤ : EReal), 0#32) = r at g1 g2 g3
  have hr : ∃ k : Fin 512, r = (f k, BitVec.ofNat 32 k.val) := by
    rcases g1 with rfl | g
    · refine ⟨0, ?_⟩
      have h := g3 _ (h2 0)
      rcases (Prod.Lex.toLex_le_toLex).1 h with h | ⟨h, -⟩
      · exact absurd h not_top_lt
      · exact Prod.ext h rfl
    · exact h1 r g
  obtain ⟨k, rfl⟩ := hr
  have hk : Spec.FirstMin f k := by
    refine ⟨fun j => ?_, fun j hj => ?_⟩
    · rcases (Prod.Lex.toLex_le_toLex).1 (g3 _ (h2 j)) with h | ⟨h, -⟩
      · exact le_of_lt h
      · exact le_of_eq h
    · rcases (Prod.Lex.toLex_le_toLex).1 (g3 _ (h2 j)) with h | ⟨-, h⟩
      · exact absurd hj h.ne'
      · have hk := k.isLt
        have hj := j.isLt
        have h' : (BitVec.ofNat 32 k.val).toInt ≤ (BitVec.ofNat 32 j.val).toInt := h
        rw [Spec.toInt_small (by omega), Spec.toInt_small (by omega)] at h'
        exact Fin.mk_le_mk.2 (by exact_mod_cast h')
  rw [hk.unique (Spec.amin_spec f)]

/-- The reference's choice of a place, from the row of distances. -/
theorem arg_amin (x : FVec Ideal S1x16x2048x512 .f32) (h : Fin 16) (s : Fin 2048) :
    (Host.argReduce (reducer_argmin_f32_i32 (F := Ideal)) x (iotaInDim S1x16x2048x512 32 3) (constant (F := Ideal) S_ .f32 2139095040#32) (constantI S_ 32 0#32)
      reducesTo_S1x16x2048x512_S1x16x2048_d3 h_S_ (ix3 0 h s)).2 = BitVec.ofNat 32 (Spec.amin fun k : Fin 512 => x (ix4 0 h s k)).val := by
  rw [Ideal.argReduce_eq_reduce2, Host.reduce2_eq_foldl_fiber]
  have e : ((constant (F := Ideal) S_ .f32 2139095040#32 (Shape.Idx.first h_S_), constantI S_ 32 0#32 (Shape.Idx.first h_S_)) : EReal × BitVec 32) = ((⊤ : EReal), 0#32) :=
    Prod.ext Spec.pinf_eq rfl
  refine (congrArg (fun p => (List.foldl (reducer_argmin_f32_i32 (F := Ideal)) p (Host.argReduceFiber x (iotaInDim S1x16x2048x512 32 3) reducesTo_S1x16x2048x512_S1x16x2048_d3 (ix3 0 h s))).2) e).trans ?_
  refine fold_red_amin _ (fun k : Fin 512 => x (ix4 0 h s k)) ?_ ?_
  · intro q hq
    obtain ⟨n, hn, rfl⟩ := List.mem_map.1 hq
    have hd : (reducesTo_S1x16x2048x512_S1x16x2048_d3).drop (S1x16x2048x512.rowMajor.symm n) = ix3 0 h s := by simpa using hn
    generalize S1x16x2048x512.rowMajor.symm n = i at hd ⊢
    obtain ⟨i0, i1, i2, i3, rfl⟩ : ∃ (a : Fin 1) (b : Fin 16) (c : Fin 2048) (d : Fin 512), i = ix4 a b c d :=
      ⟨i 0, i 1, i 2, i 3, by funext k; match k with | ⟨0, _⟩ => rfl | ⟨1, _⟩ => rfl | ⟨2, _⟩ => rfl | ⟨3, _⟩ => rfl⟩
    obtain rfl : i0 = 0 := Subsingleton.elim _ _
    have a1 : i1 = h := Fin.ext (((reducesTo_S1x16x2048x512_S1x16x2048_d3).drop_apply_val_of_eq (ix4 0 i1 i2 i3) 1 1).symm.trans (congrArg Fin.val (congrFun hd 1)))
    have a2 : i2 = s := Fin.ext (((reducesTo_S1x16x2048x512_S1x16x2048_d3).drop_apply_val_of_eq (ix4 0 i1 i2 i3) 2 2).symm.trans (congrArg Fin.val (congrFun hd 2)))
    subst a1 a2
    exact ⟨i3, rfl⟩
  · intro k
    refine List.mem_map.2 ⟨S1x16x2048x512.rowMajor (ix4 0 h s k), ?_, ?_⟩
    · refine List.mem_filter.2 ⟨List.mem_finRange _, ?_⟩
      rw [Equiv.symm_apply_apply]
      refine decide_eq_true ?_
      funext b
      apply Fin.ext
      match b with
      | ⟨0, _⟩ => exact (reducesTo_S1x16x2048x512_S1x16x2048_d3).drop_apply_val_of_eq (ix4 0 h s k) 0 0
      | ⟨1, _⟩ => exact (reducesTo_S1x16x2048x512_S1x16x2048_d3).drop_apply_val_of_eq (ix4 0 h s k) 1 1
      | ⟨2, _⟩ => exact (reducesTo_S1x16x2048x512_S1x16x2048_d3).drop_apply_val_of_eq (ix4 0 h s k) 2 2
    · rw [Equiv.symm_apply_apply]
      rfl

end Cert.ReferenceIdeal.Val
end
-- ==== Proof.RGather.lean ====
module

public import proofs.«01_k».proof.Proof.ROps
public import proofs.«01_k».proof.Proof.Spec
public import proofs.«01_k».proof.Proof.Words
public import Idealize.ShloMosaic.Lib.StableHlo.ReadAt
public import Idealize.ShloMosaic.Lib.Pointwise
public import Idealize.ShloMosaic.Lib.ValueIdx

@[expose] public section

/-! The reference's values, in the formula's terms: the codebook's row taken at a place. -/

set_option maxRecDepth 16384

noncomputable section

namespace Cert.ReferenceIdeal.Val

open Cert.ReferenceIdeal Cert.ReferenceIdeal.Gen Idealize.ShloMosaic Idealize.ShloMosaic.TcCoe Idealize.SL.Sem

/-- The rows of the codebook that two words choose, each clamped to its range. -/
theorem gather_rows (x : FVec Ideal S16x512x64 .f32) (idx : IVec S1x16x2048x2 32) (h : Fin 16) (s : Fin 2048) (d : Fin 64) :
    Host.gather gather_S16x512x64_S1x16x2048x2_S1x16x2048x64_3_01_n_n_01_3_1164 x idx (ix4 0 h s d) =
      x (ix3 ⟨min (idx (ix4 0 h s 0)).toInt.toNat 15, by omega⟩ ⟨min (idx (ix4 0 h s 1)).toInt.toNat 511, by omega⟩ d) := by
  unfold Host.gather
  congr 1
  funext a
  refine Fin.ext ?_
  show (gather_S16x512x64_S1x16x2048x2_S1x16x2048x64_3_01_n_n_01_3_1164).start (ix4 0 h s d) idx a
    + (gather_S16x512x64_S1x16x2048x2_S1x16x2048x64_3_01_n_n_01_3_1164).batchCoord (ix4 0 h s d) a
    + (gather_S16x512x64_S1x16x2048x2_S1x16x2048x64_3_01_n_n_01_3_1164).offCoord (ix4 0 h s d) a = _
  rw [GatherDims.batchCoord_eq_zero _ _ _ List.not_mem_nil]
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.offCoord_eq_zero _ _ _ (fun h => ((GatherDims.mem_sKept _ _).mp h).1 (by decide))]
    unfold GatherDims.start
    rw [dif_pos (show (0 : Fin 3) ∈ (gather_S16x512x64_S1x16x2048x2_S1x16x2048x64_3_01_n_n_01_3_1164).startIndexMap by decide)]
    have hsi : (gather_S16x512x64_S1x16x2048x2_S1x16x2048x64_3_01_n_n_01_3_1164).siIdx (ix4 0 h s d) ⟨List.idxOf (0 : Fin 3) (gather_S16x512x64_S1x16x2048x2_S1x16x2048x64_3_01_n_n_01_3_1164).startIndexMap,
        List.idxOf_lt_length_iff.2 (by decide)⟩ = ix4 0 h s 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.offCoord_eq_zero _ _ _ (fun h => ((GatherDims.mem_sKept _ _).mp h).1 (by decide))]
    unfold GatherDims.start
    rw [dif_pos (show (1 : Fin 3) ∈ (gather_S16x512x64_S1x16x2048x2_S1x16x2048x64_3_01_n_n_01_3_1164).startIndexMap by decide)]
    have hsi : (gather_S16x512x64_S1x16x2048x2_S1x16x2048x64_3_01_n_n_01_3_1164).siIdx (ix4 0 h s d) ⟨List.idxOf (1 : Fin 3) (gather_S16x512x64_S1x16x2048x2_S1x16x2048x64_3_01_n_n_01_3_1164).startIndexMap,
        List.idxOf_lt_length_iff.2 (by decide)⟩ = ix4 0 h s 1 := by
      funext b; refine Fin.ext ?_
      match b with
      | ⟨0, _⟩ => rfl
      | ⟨1, _⟩ => rfl
      | ⟨2, _⟩ => rfl
      | ⟨3, _⟩ => rfl
    rw [hsi]
    rfl
  · unfold GatherDims.start GatherDims.offCoord
    rw [dif_neg (show (2 : Fin 3) ∉ (gather_S16x512x64_S1x16x2048x2_S1x16x2048x64_3_01_n_n_01_3_1164).startIndexMap by decide), dif_pos (by decide)]
    show 0 + 0 + d.val = d.val
    omega

end Cert.ReferenceIdeal.Val
end
-- ==== Proof.RVal2.lean ====
module

public import proofs.«01_k».proof.Proof.RVal
public import proofs.«01_k».proof.Proof.RArg
public import proofs.«01_k».proof.Proof.RGather
public import proofs.«01_k».proof.Proof.Spec
public import proofs.«01_k».proof.Proof.Words
public import Idealize.ShloMosaic.Lib.StableHlo.ReadAt
public import Idealize.ShloMosaic.Lib.Pointwise
public import Idealize.ShloMosaic.Lib.ValueIdx

@[expose] public section

/-! The reference's values, in the formula's terms: the distances and the nearest codewords. -/

set_option maxRecDepth 16384

noncomputable section

namespace Cert.ReferenceIdeal.Val

open Cert.ReferenceIdeal Cert.ReferenceIdeal.Gen Idealize.ShloMosaic Idealize.ShloMosaic.TcCoe Idealize.SL.Sem

variable (V : Valuation τ sig (Elt Ideal))

/-- The distances as the reference reads them. -/
def distR (x : FVec Ideal S1x16x2048x64 .f32) (a : FVec Ideal S16x512x64 .f32) (h : Fin 16) (s : Fin 2048) (c : Fin 512) : EReal :=
  Spec.dist (fun d => x (ix4 0 h s d)) (fun c d => a (ix3 h c d)) c

theorem o84 (h : Fin 16) (s : Fin 2048) (c : Fin 512) : L6 V (Proc.devRef .tc main_v84) (ix4 0 h s c) =
    distR (L5 V (Proc.devRef .tc main_v65)) (L5 V (Proc.devRef .tc main_arg16)) h s c := by
  unfold L6
  after_reads_at
  rfl
theorem o85 (h : Fin 16) (s : Fin 2048) : L7 V (Proc.devRef .tc main_v85) (ix3 0 h s) =
    (Host.argReduce (reducer_argmin_f32_i32 (F := Ideal)) (L6 V (Proc.devRef .tc main_v84)) (iotaInDim S1x16x2048x512 32 3) (constant (F := Ideal) S_ .f32 2139095040#32) (constantI S_ 32 0#32)
      reducesTo_S1x16x2048x512_S1x16x2048_d3 h_S_ (ix3 0 h s)).2 := by
  unfold L7
  after_reads_at
/-- A place below its count, wrapped as an index is. -/
def wrapR (n a : BitVec 32) : BitVec 32 := Scalar.select (IntOp.cmpi .slt a 0#32) (IntOp.addi a n) a
theorem o92 (h : Fin 16) : L8 V (Proc.devRef .tc main_v92) (ix3 0 h 0) = wrapR 16#32 (BitVec.ofNat 32 h.val) := by
  unfold L8
  after_reads_at
  rfl
theorem o97 (h : Fin 16) (s : Fin 2048) : L8 V (Proc.devRef .tc main_v97) (ix3 0 h s) = wrapR 512#32 (L7 V (Proc.devRef .tc main_v85) (ix3 0 h s)) := by
  unfold L8
  after_reads_at
  rfl
theorem o101_0 (h : Fin 16) (s : Fin 2048) : L9 V (Proc.devRef .tc main_v101) (ix4 0 h s 0) = L8 V (Proc.devRef .tc main_v92) (ix3 0 h 0) := by
  unfold L9
  after_reads_at
theorem o101_1 (h : Fin 16) (s : Fin 2048) : L9 V (Proc.devRef .tc main_v101) (ix4 0 h s 1) = L8 V (Proc.devRef .tc main_v97) (ix3 0 h s) := by
  unfold L9
  after_reads_at
theorem o102 : L9 V (Proc.devRef .tc main_v102) = Host.gather gather_S16x512x64_S1x16x2048x2_S1x16x2048x64_3_01_n_n_01_3_1164 (L8 V (Proc.devRef .tc main_arg16)) (L9 V (Proc.devRef .tc main_v101)) := by
  unfold L9
  after_reads_simp

theorem wrapR_small {n : BitVec 32} {a : ℕ} (ha : a < 2 ^ 31) : wrapR n (BitVec.ofNat 32 a) = BitVec.ofNat 32 a := by
  have h : ¬ (BitVec.ofNat 32 a).toInt < (0#32 : BitVec 32).toInt := by
    rw [Spec.toInt_small ha]
    simp
  unfold wrapR IntOp.cmpi
  simp only [BitVec.slt]
  rw [decide_eq_false h]
  rfl

theorem kept65_5 (h : Fin 16) (s : Fin 2048) (d : Fin 64) : L5 V (Proc.devRef .tc main_v65) (ix4 0 h s d) = Spec.ky (inpR V) h s d :=
  (congrFun (L5_of V main_v65 (by decide)) _).trans (r65 V h s d)
theorem r84 (h : Fin 16) (s : Fin 2048) (c : Fin 512) : L6 V (Proc.devRef .tc main_v84) (ix4 0 h s c) = Spec.dist (Spec.ky (inpR V) h s) ((inpR V).cb h) c := by
  refine (o84 V h s c).trans ?_
  exact congrArg₂ (fun x y => Spec.dist x y c) (funext fun d => kept65_5 V h s d)
    (funext fun c => funext fun d => congrFun (args_5 V main_arg16 (by decide)) _)
theorem r85 (h : Fin 16) (s : Fin 2048) : L7 V (Proc.devRef .tc main_v85) (ix3 0 h s) = BitVec.ofNat 32 (Spec.amin (Spec.dist (Spec.ky (inpR V) h s) ((inpR V).cb h))).val := by
  refine (o85 V h s).trans ((arg_amin _ h s).trans ?_)
  exact congrArg (fun f => BitVec.ofNat 32 (Spec.amin f).val) (funext fun c => r84 V h s c)
theorem r101_0 (h : Fin 16) (s : Fin 2048) : L9 V (Proc.devRef .tc main_v101) (ix4 0 h s 0) = BitVec.ofNat 32 h.val :=
  (o101_0 V h s).trans ((o92 V h).trans (wrapR_small (by omega)))
theorem r101_1 (h : Fin 16) (s : Fin 2048) : L9 V (Proc.devRef .tc main_v101) (ix4 0 h s 1) =
    BitVec.ofNat 32 (Spec.amin (Spec.dist (Spec.ky (inpR V) h s) ((inpR V).cb h))).val :=
  (o101_1 V h s).trans ((o97 V h s).trans ((congrArg (wrapR 512#32) (r85 V h s)).trans (wrapR_small (by omega))))

theorem min_small {a n : ℕ} (ha : a ≤ n) (hn : n < 2 ^ 31) : min (BitVec.ofNat 32 a).toInt.toNat n = a := by
  rw [Spec.toInt_small (by omega)]
  simp [ha]
/-- The codewords. -/
theorem r102 (h : Fin 16) (s : Fin 2048) (d : Fin 64) : L9 V (Proc.devRef .tc main_v102) (ix4 0 h s d) = Spec.kh (inpR V) h s d := by
  refine (congrFun (o102 V) _).trans ((gather_rows _ _ h s d).trans ?_)
  refine (congrFun (args_8 V main_arg16 (by decide)) _).trans ?_
  have e0 : (⟨min ((L9 V (Proc.devRef .tc main_v101) : IVec S1x16x2048x2 32) (ix4 0 h s 0)).toInt.toNat 15, by omega⟩ : Fin 16) = h :=
    Fin.ext ((congrArg (fun b : BitVec 32 => min b.toInt.toNat 15) (r101_0 V h s)).trans (min_small (by omega) (by norm_num)))
  have e1 : (⟨min ((L9 V (Proc.devRef .tc main_v101) : IVec S1x16x2048x2 32) (ix4 0 h s 1)).toInt.toNat 511, by omega⟩ : Fin 512) = Spec.amin (Spec.dist (Spec.ky (inpR V) h s) ((inpR V).cb h)) :=
    Fin.ext ((congrArg (fun b : BitVec 32 => min b.toInt.toNat 511) (r101_1 V h s)).trans (min_small (by omega) (by norm_num)))
  exact congrArg₂ (fun (a : Fin 16) (b : Fin 512) => V (Proc.devRef .tc main_arg16) (ix3 a b d)) e0 e1

end Cert.ReferenceIdeal.Val
end
-- ==== Proof.RVal3.lean ====
module

public import proofs.«01_k».proof.Proof.RVal2
public import proofs.«01_k».proof.Proof.SpecReal
public import Idealize.ShloMosaic.Lib.StableHlo.ReadAt
public import Idealize.ShloMosaic.Lib.Pointwise
public import Idealize.ShloMosaic.Lib.ValueIdx

@[expose] public section

/-! The reference's values, in the formula's terms: the loss. -/

set_option maxRecDepth 16384

noncomputable section

namespace Cert.ReferenceIdeal.Val

open Cert.ReferenceIdeal Cert.ReferenceIdeal.Gen Idealize.ShloMosaic Idealize.ShloMosaic.TcCoe Idealize.SL.Sem

variable (V : Valuation τ sig (Elt Ideal))

/-- The sum of the mask as the reference reads it. -/
def maskSum (x : FVec Ideal S1x2048 .f32) : EReal :=
  Ideal.hostReduceAdd reducesTo_S1x1x2048x1_S_d0_1_2_3 (broadcastInDim S1x1x2048x1 ![0, 2] bcast_S1x2048_S1x1x2048x1_0_2 x) 0 ix0
theorem maskSum_eq (x : FVec Ideal S1x2048 .f32) : maskSum x = ∑ s : Fin 2048, x (ix2 0 s) := by
  unfold maskSum
  rw [Ideal.hostReduceAdd_total _ (fun b => b.elim0), zero_add, sum_idx4, Fin.sum_univ_one, Fin.sum_univ_one]
  refine Finset.sum_congr rfl fun s _ => ?_
  rw [Fin.sum_univ_one]
  pointwise

/-- The sum of the masked squares as the reference reads it. -/
def sqSum (x y : FVec Ideal S1x16x2048x64 .f32) (w : FVec Ideal S1x1x2048x1 .f32) : EReal :=
  Ideal.hostReduceAdd reducesTo_S1x16x2048x64_S_d0_1_2_3
    (mulf (mulf (subf x y) (subf x y)) (broadcastInDim S1x16x2048x64 ![0, 1, 2, 3] bcast_S1x1x2048x1_S1x16x2048x64_0_1_2_3 w)) 0 ix0
theorem sqSum_eq (x y : FVec Ideal S1x16x2048x64 .f32) (w : FVec Ideal S1x1x2048x1 .f32) :
    sqSum x y w = ∑ h : Fin 16, ∑ s : Fin 2048, ∑ d : Fin 64, (x (ix4 0 h s d) - y (ix4 0 h s d)) * (x (ix4 0 h s d) - y (ix4 0 h s d)) * w (ix4 0 0 s 0) := by
  unfold sqSum
  rw [Ideal.hostReduceAdd_total _ (fun b => b.elim0), zero_add, sum_idx4, Fin.sum_univ_one]
  refine Finset.sum_congr rfl fun h _ => Finset.sum_congr rfl fun s _ => Finset.sum_congr rfl fun d _ => ?_
  pointwise

theorem sum_mul_of_nonneg {ι : Type} (t : Finset ι) (f : ι → EReal) (c : EReal) (hf : ∀ i, 0 ≤ f i) :
    ∑ i ∈ t, f i * c = (∑ i ∈ t, f i) * c := by
  classical
  induction t using Finset.induction_on with
  | empty => simp
  | insert a t ha ih =>
    rw [Finset.sum_insert ha, Finset.sum_insert ha, ih, EReal.right_distrib_of_nonneg (hf a) (Finset.sum_nonneg fun i _ => hf i)]
theorem sq_nonneg_of_isR {a : EReal} (h : Spec.IsR a) : 0 ≤ a * a := by
  obtain ⟨r, rfl⟩ := h
  exact_mod_cast mul_self_nonneg r

theorem o103 (s : Fin 2048) : L9 V (Proc.devRef .tc main_v103) (ix4 0 0 s 0) = L8 V (Proc.devRef .tc main_arg2) (ix2 0 s) := by
  unfold L9
  after_reads_at
theorem o107 : L9 V (Proc.devRef .tc main_v107) ix0 = maskSum (L8 V (Proc.devRef .tc main_arg2)) * Ideal.ofBits FTy.f32 1098907648#32 * Spec.c64 + Spec.tiny := by
  unfold L9
  after_reads_at
  rfl
theorem o113 : L10 V (Proc.devRef .tc main_v113) ix0 =
    Ideal.div (sqSum (L9 V (Proc.devRef .tc main_v65)) (L9 V (Proc.devRef .tc main_v102)) (L9 V (Proc.devRef .tc main_v103))) (L9 V (Proc.devRef .tc main_v107) ix0) := by
  unfold L10
  after_reads_at
  rfl
theorem o119 : L10 V (Proc.devRef .tc main_v119) ix0 =
    Ideal.div (sqSum (L9 V (Proc.devRef .tc main_v65)) (L9 V (Proc.devRef .tc main_v102)) (L9 V (Proc.devRef .tc main_v103))) (L9 V (Proc.devRef .tc main_v107) ix0) := by
  unfold L10
  after_reads_at
  rfl

theorem r103 (s : Fin 2048) : L9 V (Proc.devRef .tc main_v103) (ix4 0 0 s 0) = (inpR V).lm s :=
  (o103 V s).trans (congrFun (args_8 V main_arg2 (by decide)) _)
theorem r107 : L9 V (Proc.devRef .tc main_v107) ix0 = (∑ s, (inpR V).lm s) * Spec.c1024 + Spec.tiny := by
  have e : maskSum (L8 V (Proc.devRef .tc main_arg2)) = ∑ s, (inpR V).lm s :=
    (maskSum_eq _).trans (Finset.sum_congr (M := EReal) rfl fun s _ => congrFun (args_8 V main_arg2 (by decide)) _)
  refine (o107 V).trans ?_
  rw [e, mul_assoc, Spec.c16_eq, Spec.c64_eq, Spec.c1024_eq, ← EReal.coe_mul]
  norm_num
theorem kept65_9 (h : Fin 16) (s : Fin 2048) (d : Fin 64) : L9 V (Proc.devRef .tc main_v65) (ix4 0 h s d) = Spec.ky (inpR V) h s d :=
  (congrFun ((L9_of V main_v65 (by decide)).trans ((L8_of V main_v65 (by decide)).trans ((L7_of V main_v65 (by decide)).trans (L6_of V main_v65 (by decide))))) _).trans (kept65_5 V h s d)

theorem sqSum_congr {x y : FVec Ideal S1x16x2048x64 .f32} {w : FVec Ideal S1x1x2048x1 .f32} {X Y : Fin 16 → Fin 2048 → Fin 64 → EReal} {M : Fin 2048 → EReal}
    (hx : ∀ h s d, x (ix4 0 h s d) = X h s d) (hy : ∀ h s d, y (ix4 0 h s d) = Y h s d) (hw : ∀ s, w (ix4 0 0 s 0) = M s) :
    sqSum x y w = ∑ h : Fin 16, ∑ s : Fin 2048, ∑ d : Fin 64, (X h s d - Y h s d) * (X h s d - Y h s d) * M s := by
  rw [sqSum_eq]
  refine Finset.sum_congr rfl fun h _ => Finset.sum_congr rfl fun s _ => Finset.sum_congr rfl fun d _ => ?_
  rw [hx, hy, hw]
theorem sq_loss (R : Spec.Real (inpR V)) :
    sqSum (L9 V (Proc.devRef .tc main_v65)) (L9 V (Proc.devRef .tc main_v102)) (L9 V (Proc.devRef .tc main_v103)) = ∑ h : Fin 16, ∑ s, Spec.er (inpR V) h s * (inpR V).lm s := by
  refine (sqSum_congr (X := Spec.ky (inpR V)) (Y := Spec.kh (inpR V)) (M := (inpR V).lm) (kept65_9 V) (r102 V) (r103 V)).trans ?_
  refine Finset.sum_congr rfl fun h _ => Finset.sum_congr rfl fun s _ => ?_
  exact sum_mul_of_nonneg Finset.univ (fun d => (Spec.ky (inpR V) h s d - Spec.kh (inpR V) h s d) * (Spec.ky (inpR V) h s d - Spec.kh (inpR V) h s d)) ((inpR V).lm s)
    fun d => sq_nonneg_of_isR ((Spec.ky_isR R h s d).sub (Spec.kh_isR R h s d))
theorem r113 (R : Spec.Real (inpR V)) : L10 V (Proc.devRef .tc main_v113) ix0 = Spec.loss (inpR V) :=
  (o113 V).trans (congrArg₂ Ideal.div (sq_loss V R) (r107 V))
theorem r119 (R : Spec.Real (inpR V)) : L10 V (Proc.devRef .tc main_v119) ix0 = Spec.loss (inpR V) :=
  (o119 V).trans (congrArg₂ Ideal.div (sq_loss V R) (r107 V))
/-- The first loss, at the end. -/
theorem e113 (R : Spec.Real (inpR V)) (i : S_.Idx) : L17 V (Proc.devRef .tc main_v113) i = Spec.loss (inpR V) := by
  obtain rfl : i = ix0 := Subsingleton.elim _ _
  refine (congrFun ?_ _).trans (r113 V R)
  rw [L17_of V main_v113 (by decide), L16_of V main_v113 (by decide), L15_of V main_v113 (by decide), L14_of V main_v113 (by decide),
    L13_of V main_v113 (by decide), L12_of V main_v113 (by decide), L11_of V main_v113 (by decide)]
/-- The second loss, at the end. -/
theorem e119 (R : Spec.Real (inpR V)) (i : S_.Idx) : L17 V (Proc.devRef .tc main_v119) i = Spec.loss (inpR V) := by
  obtain rfl : i = ix0 := Subsingleton.elim _ _
  refine (congrFun ?_ _).trans (r119 V R)
  rw [L17_of V main_v119 (by decide), L16_of V main_v119 (by decide), L15_of V main_v119 (by decide), L14_of V main_v119 (by decide),
    L13_of V main_v119 (by decide), L12_of V main_v119 (by decide), L11_of V main_v119 (by decide)]

end Cert.ReferenceIdeal.Val
end
-- ==== Proof.RVal4.lean ====
module

public import proofs.«01_k».proof.Proof.RVal2
public import proofs.«01_k».proof.Proof.SpecReal
public import proofs.«01_k».proof.Proof.SpecAttn
public import Idealize.ShloMosaic.Lib.StableHlo.ReadAt
public import Idealize.ShloMosaic.Lib.Pointwise
public import Idealize.ShloMosaic.Lib.ValueIdx

@[expose] public section

/-! The reference's values, in the formula's terms: the scores and which of them are kept. -/

set_option maxRecDepth 16384

noncomputable section

namespace Cert.ReferenceIdeal.Val

open Cert.ReferenceIdeal Cert.ReferenceIdeal.Gen Idealize.ShloMosaic Idealize.ShloMosaic.TcCoe Idealize.SL.Sem

/-- A cached place among all the places. -/
def tM (t : Fin 256) : Fin 2304 := ⟨t.val, by omega⟩
/-- An own place among all the places. -/
def tS (t : Fin 2048) : Fin 2304 := ⟨256 + t.val, by omega⟩
theorem sum_tM_tS (f : Fin 2304 → EReal) : ∑ t, f t = ∑ t, f (tM t) + ∑ t, f (tS t) :=
  Fin.sum_univ_add (a := 256) (b := 2048) f
theorem eq_tM_or_tS (t : Fin 2304) : (∃ u, t = tM u) ∨ ∃ u, t = tS u := by
  by_cases h : t.val < 256
  · exact Or.inl ⟨⟨t.val, h⟩, rfl⟩
  · exact Or.inr ⟨⟨t.val - 256, by omega⟩, Fin.ext (by show t.val = 256 + (t.val - 256); omega)⟩
theorem sup_tM_tS (f : Fin 2304 → EReal) : Finset.univ.sup f = max (Finset.univ.sup fun t => f (tM t)) (Finset.univ.sup fun t => f (tS t)) := by
  apply le_antisymm
  · refine Finset.sup_le fun t _ => ?_
    rcases eq_tM_or_tS t with ⟨u, rfl⟩ | ⟨u, rfl⟩
    · exact le_max_of_le_left (Finset.le_sup (f := fun t => f (tM t)) (Finset.mem_univ u))
    · exact le_max_of_le_right (Finset.le_sup (f := fun t => f (tS t)) (Finset.mem_univ u))
  · refine max_le (Finset.sup_le fun t _ => ?_) (Finset.sup_le fun t _ => ?_)
    · exact Finset.le_sup (f := f) (Finset.mem_univ (tM t))
    · exact Finset.le_sup (f := f) (Finset.mem_univ (tS t))

/-- One of two lists by the place. -/
def pick {α : Type} (f : Fin 256 → α) (g : Fin 2048 → α) (t : Fin 2304) : α :=
  if h : t.val < 256 then f ⟨t.val, h⟩ else g ⟨t.val - 256, by omega⟩
theorem pick_tM {α : Type} (f : Fin 256 → α) (g : Fin 2048 → α) (t : Fin 256) : pick f g (tM t) = f t := dif_pos t.isLt
theorem pick_tS {α : Type} (f : Fin 256 → α) (g : Fin 2048 → α) (t : Fin 2048) : pick f g (tS t) = g t := by
  unfold pick
  rw [dif_neg (by show ¬ 256 + t.val < 256; omega)]
  exact congrArg g (Fin.ext (by show 256 + t.val - 256 = t.val; omega))

variable (V : Valuation τ sig (Elt Ideal))

/-- An own key with its codeword's difference added. -/
def keyR (x y : FVec Ideal S1x16x2048x64 .f32) (h : Fin 16) (d : Fin 64) (t : Fin 2048) : EReal := x (ix4 0 h t d) + (y (ix4 0 h t d) - x (ix4 0 h t d))
theorem o122 (h : Fin 16) (t : Fin 2304) (d : Fin 64) : L11 V (Proc.devRef .tc main_v122) (ix4 0 h t d) =
    pick (fun t => L10 V (Proc.devRef .tc main_arg3) (ix4 0 h t d)) (keyR (L10 V (Proc.devRef .tc main_v65)) (L10 V (Proc.devRef .tc main_v102)) h d) t := by
  unfold L11
  after_reads_at
  rfl
theorem o123 (h : Fin 16) (t : Fin 2304) (d : Fin 64) : L11 V (Proc.devRef .tc main_v123) (ix4 0 h t d) =
    pick (fun t => L10 V (Proc.devRef .tc main_arg4) (ix4 0 h t d)) (fun t => L10 V (Proc.devRef .tc main_v68) (ix4 0 h t d)) t := by
  unfold L11
  after_reads_at
  rfl
theorem u130 (t : Fin 256) : StableHlo.upto st12 (L11 V) 8 (Proc.devRef .tc main_v130) (ix1 t) = IntOp.addi (BitVec.ofNat 32 t.val) (IntOp.subi (L11 V (Proc.devRef .tc main_arg7) ix0) 256#32) := by
  unfold StableHlo.upto
  simp only [List.take]
  after_reads_at
theorem u126 (t : Fin 2048) : StableHlo.upto st12 (L11 V) 8 (Proc.devRef .tc main_v126) (ix1 t) = IntOp.addi (L11 V (Proc.devRef .tc main_arg7) ix0) (BitVec.ofNat 32 t.val) := by
  unfold StableHlo.upto
  simp only [List.take]
  after_reads_at
theorem u6 : StableHlo.upto st12 (L11 V) 9 (Proc.devRef .tc main_arg6) = L11 V (Proc.devRef .tc main_arg6) := by
  unfold StableHlo.upto
  simp only [List.take]
  after_reads_simp
theorem u1 : StableHlo.upto st12 (L11 V) 9 (Proc.devRef .tc main_arg1) = L11 V (Proc.devRef .tc main_arg1) := by
  unfold StableHlo.upto
  simp only [List.take]
  after_reads_simp
theorem o144 (s : Fin 2048) (t : Fin 2304) : L12 V (Proc.devRef .tc main_v144) (ix3 0 s t) =
    IntOp.andi (IntOp.cmpi CmpIPredicate.sle
        (pick (fun t => IntOp.addi (BitVec.ofNat 32 t.val) (IntOp.subi (L11 V (Proc.devRef .tc main_arg7) ix0) 256#32))
          (fun t => IntOp.addi (L11 V (Proc.devRef .tc main_arg7) ix0) (BitVec.ofNat 32 t.val)) t)
        (IntOp.addi (L11 V (Proc.devRef .tc main_arg7) ix0) (BitVec.ofNat 32 s.val)))
      (IntOp.cmpi CmpIPredicate.eq (pick (fun t => L11 V (Proc.devRef .tc main_arg6) (ix2 0 t)) (fun t => L11 V (Proc.devRef .tc main_arg1) (ix2 0 t)) t)
        (L11 V (Proc.devRef .tc main_arg1) (ix2 0 s))) := by
  unfold L12
  after_reads_at
  refine congrArg₂ IntOp.andi (congrArg (fun a => IntOp.cmpi CmpIPredicate.sle a _) ?_) (congrArg (fun a => IntOp.cmpi CmpIPredicate.eq a _) ?_)
  · unfold pick
    split
    · exact u130 V _
    · exact u126 V _
  · unfold pick
    split
    · exact congrFun (u6 V) _
    · exact congrFun (u1 V) _
/-- The product of a query and a key as the reference reads them. -/
def scoreR (q : FVec Ideal S1x16x2048x64 .f32) (u : FVec Ideal S16x64 .f32) (k : FVec Ideal S1x16x2304x64 .f32) (h : Fin 16) (s : Fin 2048) (t : Fin 2304) : EReal :=
  ∑ x : Fin 64, (q (ix4 0 h s x) + u (ix2 h x)) * k (ix4 0 h t x)
theorem o148 (h : Fin 16) (s : Fin 2048) (t : Fin 2304) : L13 V (Proc.devRef .tc main_v148) (ix4 0 h s t) =
    scoreR (L12 V (Proc.devRef .tc main_v44)) (L12 V (Proc.devRef .tc main_arg15)) (L12 V (Proc.devRef .tc main_v122)) h s t := by
  unfold L13
  after_reads_at
  rfl
theorem o149 (h : Fin 16) (s : Fin 2048) (t : Fin 2304) : L13 V (Proc.devRef .tc main_v149) (ix4 0 h s t) = Ideal.ofBits FTy.f32 1090519040#32 := by
  unfold L13
  after_reads_at
theorem o152 (h : Fin 16) (s : Fin 2048) (t : Fin 2304) : L14 V (Proc.devRef .tc main_v152) (ix4 0 h s t) =
    Scalar.select (L13 V (Proc.devRef .tc main_v144) (ix3 0 s t)) (Ideal.div (L13 V (Proc.devRef .tc main_v148) (ix4 0 h s t)) (L13 V (Proc.devRef .tc main_v149) (ix4 0 h s t)))
      (Ideal.ofBits .f32 4286578688#32) := by
  unfold L14
  after_reads_at
  rfl

/-- What the claim asks of the integer arguments. -/
structure Whole : Prop where
  pos : ∃ p : ℕ, p ≤ 2 ^ 30 ∧ V (Proc.devRef .tc main_arg7) ix0 = BitVec.ofNat 32 p
  doc : ∃ D : BitVec 32, (∀ s : Fin 2048, V (Proc.devRef .tc main_arg1) (ix2 0 s) = D) ∧ ∀ t : Fin 256, V (Proc.devRef .tc main_arg6) (ix2 0 t) = D

/-- A cached place is before every place. -/
theorem word_before {p t s : ℕ} (hp : p ≤ 2 ^ 30) (ht : t < 256) (hs : s < 2048) :
    IntOp.cmpi CmpIPredicate.sle (IntOp.addi (BitVec.ofNat 32 t) (IntOp.subi (BitVec.ofNat 32 p) 256#32)) (IntOp.addi (BitVec.ofNat 32 p) (BitVec.ofNat 32 s)) = 1#1 := by
  rw [Spec.add_small, Spec.sle_toInt, Spec.toInt_small (by omega), if_pos]
  unfold IntOp.addi IntOp.subi
  rw [BitVec.toInt_add, BitVec.toInt_sub, Spec.toInt_small (by omega), Spec.toInt_small (by omega), show ((256#32 : BitVec 32).toInt) = 256 from rfl]
  simp only [Int.bmod]
  push_cast
  split <;> split <;> omega
theorem word_order {p t s : ℕ} (hp : p ≤ 2 ^ 30) (ht : t < 2048) (hs : s < 2048) :
    IntOp.cmpi CmpIPredicate.sle (IntOp.addi (BitVec.ofNat 32 p) (BitVec.ofNat 32 t)) (IntOp.addi (BitVec.ofNat 32 p) (BitVec.ofNat 32 s)) = if t ≤ s then 1#1 else 0#1 := by
  rw [Spec.add_small, Spec.add_small, Spec.sle_small (by omega) (by omega)]
  simp only [Nat.add_le_add_iff_left]
theorem word_eq (D : BitVec 32) : IntOp.cmpi CmpIPredicate.eq D D = 1#1 := by
  unfold IntOp.cmpi
  simp
theorem and_one (b : BitVec 1) : IntOp.andi b 1#1 = b := by
  unfold IntOp.andi
  revert b
  decide

variable (W : Whole V)
include W

theorem r144 (s : Fin 2048) (t : Fin 2304) : L12 V (Proc.devRef .tc main_v144) (ix3 0 s t) = pick (fun _ => 1#1) (fun t => if t ≤ s then 1#1 else 0#1) t := by
  obtain ⟨p, hp, hV⟩ := W.pos
  obtain ⟨D, h1, h6⟩ := W.doc
  have a7 : L11 V (Proc.devRef .tc main_arg7) ix0 = BitVec.ofNat 32 p := (congrFun (args_11 V main_arg7 (by decide)) _).trans hV
  have a1 : ∀ s : Fin 2048, L11 V (Proc.devRef .tc main_arg1) (ix2 0 s) = D := fun s => (congrFun (args_11 V main_arg1 (by decide)) _).trans (h1 s)
  have a6 : ∀ t : Fin 256, L11 V (Proc.devRef .tc main_arg6) (ix2 0 t) = D := fun s => (congrFun (args_11 V main_arg6 (by decide)) _).trans (h6 s)
  refine (o144 V s t).trans ?_
  rcases eq_tM_or_tS t with ⟨u, rfl⟩ | ⟨u, rfl⟩
  · rw [pick_tM, pick_tM, pick_tM, a7, a6 u, a1 s, word_before hp u.isLt s.isLt, word_eq, and_one]
  · rw [pick_tS, pick_tS, pick_tS, a7, a1 u, a1 s, word_order hp u.isLt s.isLt, word_eq, and_one]
    rfl
omit W

theorem kept65_10 (h : Fin 16) (s : Fin 2048) (d : Fin 64) : L10 V (Proc.devRef .tc main_v65) (ix4 0 h s d) = Spec.ky (inpR V) h s d :=
  (congrFun ((L10_of V main_v65 (by decide)).trans ((L9_of V main_v65 (by decide)).trans ((L8_of V main_v65 (by decide)).trans ((L7_of V main_v65 (by decide)).trans (L6_of V main_v65 (by decide)))))) _).trans (kept65_5 V h s d)
theorem kept102_10 (h : Fin 16) (s : Fin 2048) (d : Fin 64) : L10 V (Proc.devRef .tc main_v102) (ix4 0 h s d) = Spec.kh (inpR V) h s d :=
  (congrFun (L10_of V main_v102 (by decide)) _).trans (r102 V h s d)
theorem kept68_10 (h : Fin 16) (s : Fin 2048) (d : Fin 64) : L10 V (Proc.devRef .tc main_v68) (ix4 0 h s d) = Spec.vl (inpR V) h s d :=
  (congrFun ((L10_of V main_v68 (by decide)).trans ((L9_of V main_v68 (by decide)).trans ((L8_of V main_v68 (by decide)).trans ((L7_of V main_v68 (by decide)).trans (L6_of V main_v68 (by decide)))))) _).trans (r68 V h s d)
theorem kept44_12 (h : Fin 16) (s : Fin 2048) (d : Fin 64) : L12 V (Proc.devRef .tc main_v44) (ix4 0 h s d) =
    Spec.nrm Spec.c64 (fun d => Spec.pr (inpR V) (inpR V).wq s (Spec.hcol h d)) d := by
  refine (congrFun ?_ _).trans (r44 V h s d)
  rw [L12_of V main_v44 (by decide), L11_of V main_v44 (by decide), L10_of V main_v44 (by decide), L9_of V main_v44 (by decide), L8_of V main_v44 (by decide),
    L7_of V main_v44 (by decide), L6_of V main_v44 (by decide), L5_of V main_v44 (by decide), L4_of V main_v44 (by decide), L3_of V main_v44 (by decide)]

theorem add_sub_isR {a b : EReal} (ha : Spec.IsR a) (hb : Spec.IsR b) : a + (b - a) = b := by
  obtain ⟨x, rfl⟩ := ha
  obtain ⟨y, rfl⟩ := hb
  rw [← EReal.coe_sub, ← EReal.coe_add]
  congr 1
  ring

/-- The keys of all places. -/
theorem r122 (R : Spec.Real (inpR V)) (h : Fin 16) (t : Fin 2304) (d : Fin 64) : L12 V (Proc.devRef .tc main_v122) (ix4 0 h t d) =
    pick (fun t => (inpR V).xk h t d) (fun t => Spec.kh (inpR V) h t d) t := by
  refine (congrFun (L12_of V main_v122 (by decide)) _).trans ((o122 V h t d).trans ?_)
  refine congrArg₂ (fun f g => pick f g t) (funext fun t => congrFun (args_10 V main_arg3 (by decide)) _) (funext fun t => ?_)
  refine (congrArg₂ (fun a b : EReal => a + (b - a)) (kept65_10 V h t d) (kept102_10 V h t d)).trans ?_
  exact add_sub_isR (Spec.ky_isR R h t d) (Spec.kh_isR R h t d)
/-- The values of all places. -/
theorem r123 (h : Fin 16) (t : Fin 2304) (d : Fin 64) : L11 V (Proc.devRef .tc main_v123) (ix4 0 h t d) =
    pick (fun t => (inpR V).xv h t d) (fun t => Spec.vl (inpR V) h t d) t := by
  refine (o123 V h t d).trans ?_
  exact congrArg₂ (fun f g => pick f g t) (funext fun t => congrFun (args_10 V main_arg4 (by decide)) _) (funext fun t => kept68_10 V h t d)
theorem r148 (R : Spec.Real (inpR V)) (h : Fin 16) (s : Fin 2048) (t : Fin 2304) : L13 V (Proc.devRef .tc main_v148) (ix4 0 h s t) =
    ∑ d : Fin 64, Spec.qu (inpR V) h s d * pick (fun t => (inpR V).xk h t d) (fun t => Spec.kh (inpR V) h t d) t := by
  refine (o148 V h s t).trans (Finset.sum_congr (M := EReal) rfl fun d _ => ?_)
  refine congrArg₂ (fun a b : EReal => a * b) ?_ (r122 V R h t d)
  exact congrArg₂ (fun a b : EReal => a + b) (kept44_12 V h s d) (congrFun (args_12 V main_arg15 (by decide)) _)
/-- The scores of all places. -/
theorem r152 (R : Spec.Real (inpR V)) (W : Whole V) (h : Fin 16) (s : Fin 2048) (t : Fin 2304) : L14 V (Proc.devRef .tc main_v152) (ix4 0 h s t) =
    pick (Spec.sm (inpR V) h s) (Spec.ss (inpR V) h s) t := by
  have hc : ∀ a : EReal, Ideal.div a (Ideal.ofBits FTy.f32 1090519040#32) = a * Spec.c8th := fun a => by
    rw [Spec.c8_eq, Spec.c8th_eq, Spec.div_pos (by norm_num)]
  have e144 : L13 V (Proc.devRef .tc main_v144) (ix3 0 s t) = pick (fun _ => 1#1) (fun t => if t ≤ s then 1#1 else 0#1) t :=
    (congrFun (L13_of V main_v144 (by decide)) _).trans (r144 V W s t)
  refine (o152 V h s t).trans ?_
  refine (congrArg₂ (fun (b : BitVec 1) (a : EReal) => Scalar.select b a (Ideal.ofBits .f32 4286578688#32)) e144
    ((congrArg₂ Ideal.div (r148 V R h s t) (o149 V h s t)).trans (hc _))).trans ?_
  beta_reduce
  rw [Spec.ninf_eq]
  rcases eq_tM_or_tS t with ⟨u, rfl⟩ | ⟨u, rfl⟩
  · simp only [pick_tM]
    unfold Spec.sm
    exact congrArg (fun a : EReal => a * Spec.c8th) (Finset.sum_congr rfl fun d _ => mul_comm _ _)
  · simp only [pick_tS]
    unfold Spec.ss
    by_cases hu : u ≤ s
    · rw [if_pos hu, if_pos hu]
      exact congrArg (fun a : EReal => a * Spec.c8th) (Finset.sum_congr rfl fun d _ => mul_comm _ _)
    · rw [if_neg hu, if_neg hu]
      rfl

end Cert.ReferenceIdeal.Val
end
-- ==== Proof.RVal5.lean ====
module

public import proofs.«01_k».proof.Proof.RVal4
public import Idealize.ShloMosaic.Lib.StableHlo.ReadAt
public import Idealize.ShloMosaic.Lib.Pointwise
public import Idealize.ShloMosaic.Lib.ValueIdx

@[expose] public section

/-! The reference's values, in the formula's terms: the weights and the result. -/

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo

theorem maxRow (x : FVec Ideal S1x16x2048x2304 .f32) (h : Fin 16) (s : Fin 2048) :
    Host.reduce FloatOps.maximumf x (constant (F := Ideal) S_ .f32 0xFF800000#32) reducesTo_S1x16x2048x2304_S1x16x2048_d3 h_S_ (ix3 0 h s) =
      Finset.univ.sup (α := EReal) fun t : Fin 2304 => x (ix4 0 h s t) := by
  pointwise
  rw [Spec.ninf_eq]
  rfl

section
variable {F : FTy → Type} [FloatOps F]
/-- The largest scores' operations. -/
abbrev st15a : List (HloOp τ sig (Elt F)) :=
  [ nullary main_cst_29 (constant S_ .f32 0xFF800000#32),
    binary main_v152 main_cst_29 main_v153 ((fun x v => Host.reduce FloatOps.maximumf x v reducesTo_S1x16x2048x2304_S1x16x2048_d3 h_S_) : (⟨S1x16x2048x2304, .f32⟩ : BufTy).Contents (Elt F) → (⟨S_, .f32⟩ : BufTy).Contents (Elt F) → (⟨S1x16x2048, .f32⟩ : BufTy).Contents (Elt F)) ]
/-- The weights' operations after them. -/
abbrev st15b : List (HloOp τ sig (Elt F)) :=
  [ nullary main_cst_30 (constant S_ .f32 0xFF800000#32),
    unary main_cst_30 main_v154 (broadcastInDim S1x16x2048 ![] bcast_S_S1x16x2048 : (⟨S_, .f32⟩ : BufTy).Contents (Elt F) → (⟨S1x16x2048, .f32⟩ : BufTy).Contents (Elt F)),
    binary main_v154 main_v153 main_v155 (maximumf : (⟨S1x16x2048, .f32⟩ : BufTy).Contents (Elt F) → (⟨S1x16x2048, .f32⟩ : BufTy).Contents (Elt F) → (⟨S1x16x2048, .f32⟩ : BufTy).Contents (Elt F)),
    unary main_v155 main_v156 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    unary main_v156 main_v157 (broadcastInDim S1x16x2048x2304 ![0, 1, 2, 3] bcast_S1x16x2048x1_S1x16x2048x2304_0_1_2_3 : (⟨S1x16x2048x1, .f32⟩ : BufTy).Contents (Elt F) → (⟨S1x16x2048x2304, .f32⟩ : BufTy).Contents (Elt F)),
    binary main_v152 main_v157 main_v158 (subf : (⟨S1x16x2048x2304, .f32⟩ : BufTy).Contents (Elt F) → (⟨S1x16x2048x2304, .f32⟩ : BufTy).Contents (Elt F) → (⟨S1x16x2048x2304, .f32⟩ : BufTy).Contents (Elt F)),
    unary main_v158 main_v159 (Host.exp : (⟨S1x16x2048x2304, .f32⟩ : BufTy).Contents (Elt F) → (⟨S1x16x2048x2304, .f32⟩ : BufTy).Contents (Elt F)) ]
end

variable (V : Valuation τ sig (Elt Ideal))
/-- The buffers once the largest scores are there. -/
def L15a : Valuation τ sig (Elt Ideal) := after st15a (L14 V)
theorem L15_split : L15 V = after st15b (L15a V) := rfl
theorem o153 : L15a V (Proc.devRef .tc main_v153) =
    Host.reduce FloatOps.maximumf (L14 V (Proc.devRef .tc main_v152)) (constant (F := Ideal) S_ .f32 0xFF800000#32) reducesTo_S1x16x2048x2304_S1x16x2048_d3 h_S_ := by
  unfold L15a
  after_reads_simp
theorem k152 : L15a V (Proc.devRef .tc main_v152) = L14 V (Proc.devRef .tc main_v152) := by
  unfold L15a
  after_reads_simp
/-- A weight from the score and the largest. -/
def expR (a m : EReal) : EReal := Ideal.exp (a - max (Ideal.ofBits .f32 0xFF800000#32) m)
/-- All weights from all scores and the largest ones. -/
def expW (x : FVec Ideal S1x16x2048x2304 .f32) (m : FVec Ideal S1x16x2048 .f32) : FVec Ideal S1x16x2048x2304 .f32 :=
  Host.exp (subf x (broadcastInDim S1x16x2048x2304 ![0, 1, 2, 3] bcast_S1x16x2048x1_S1x16x2048x2304_0_1_2_3
    (broadcastInDim S1x16x2048x1 ![0, 1, 2] bcast_S1x16x2048_S1x16x2048x1_0_1_2
      (maximumf (broadcastInDim S1x16x2048 ![] bcast_S_S1x16x2048 (constant (F := Ideal) S_ .f32 0xFF800000#32)) m))))
theorem expW_at (x : FVec Ideal S1x16x2048x2304 .f32) (m : FVec Ideal S1x16x2048 .f32) (h : Fin 16) (s : Fin 2048) (t : Fin 2304) :
    expW x m (ix4 0 h s t) = expR (x (ix4 0 h s t)) (m (ix3 0 h s)) := by
  unfold expW
  pointwise
  rfl
theorem w159 : L15 V (Proc.devRef .tc main_v159) = expW (L15a V (Proc.devRef .tc main_v152)) (L15a V (Proc.devRef .tc main_v153)) := by
  rw [L15_split]
  after_reads_simp
  rfl
theorem o159 (h : Fin 16) (s : Fin 2048) (t : Fin 2304) : L15 V (Proc.devRef .tc main_v159) (ix4 0 h s t) =
    expR (L15a V (Proc.devRef .tc main_v152) (ix4 0 h s t)) (L15a V (Proc.devRef .tc main_v153) (ix3 0 h s)) :=
  (congrFun (w159 V) _).trans (expW_at _ _ h s t)
/-- The weighted values from the weights and the values. -/
def wavR (w : FVec Ideal S1x16x2048x2304 .f32) (v : FVec Ideal S1x16x2304x64 .f32) (h : Fin 16) (s : Fin 2048) (d : Fin 64) : EReal :=
  ∑ x : Fin 2304, Ideal.div (w (ix4 0 h s x)) (∑ x : Fin 2304, w (ix4 0 h s x)) * v (ix4 0 h x d)
theorem o164 (h : Fin 16) (s : Fin 2048) (d : Fin 64) : L16 V (Proc.devRef .tc main_v164) (ix4 0 h s d) =
    wavR (L15 V (Proc.devRef .tc main_v159)) (L15 V (Proc.devRef .tc main_v123)) h s d := by
  unfold L16
  after_reads_at
  rfl
/-- The result from the weighted values, the gate and the last weight. -/
def outR (a : FVec Ideal S1x16x2048x64 .f32) (g : FVec Ideal S1x2048x1024 .f32) (w : FVec Ideal S1024x1024 .f32) (s : Fin 2048) (e : Fin 1024) : EReal :=
  ∑ x : Fin 1024, a (ix4 0 (Spec.hd x) s (Spec.hc x)) * g (ix3 0 s x) * w (ix2 x e)
theorem o168 (s : Fin 2048) (e : Fin 1024) : L17 V (Proc.devRef .tc main_v168) (ix3 0 s e) =
    outR (L16 V (Proc.devRef .tc main_v164)) (L16 V (Proc.devRef .tc main_v70)) (L16 V (Proc.devRef .tc main_arg14)) s e := by
  unfold L17
  after_reads_at
  rfl

variable (R : Spec.Real (inpR V)) (W : Whole V)
include R W

theorem r153 (h : Fin 16) (s : Fin 2048) : L15a V (Proc.devRef .tc main_v153) (ix3 0 h s) = Spec.top (Spec.sm (inpR V) h s) (Spec.ss (inpR V) h s) := by
  refine (congrFun (o153 V) _).trans ((maxRow _ h s).trans ((sup_tM_tS _).trans ?_))
  unfold Spec.top
  refine congrArg₂ (fun f g : _ → EReal => max (Finset.univ.sup f) (Finset.univ.sup g)) (funext fun t => ?_) (funext fun t => ?_)
  · exact (r152 V R W h s (tM t)).trans (pick_tM _ _ t)
  · exact (r152 V R W h s (tS t)).trans (pick_tS _ _ t)
theorem r159 (h : Fin 16) (s : Fin 2048) (t : Fin 2304) : L15 V (Proc.devRef .tc main_v159) (ix4 0 h s t) =
    Ideal.exp (pick (Spec.sm (inpR V) h s) (Spec.ss (inpR V) h s) t - Spec.top (Spec.sm (inpR V) h s) (Spec.ss (inpR V) h s)) := by
  refine (o159 V h s t).trans ((congrArg₂ expR ((congrFun (k152 V) _).trans (r152 V R W h s t)) (r153 V R W h s)).trans ?_)
  unfold expR
  rw [Spec.ninf_eq, max_eq_right bot_le]
/-- The weighted values of a head. -/
theorem r164 (h : Fin 16) (s : Fin 2048) (d : Fin 64) : L16 V (Proc.devRef .tc main_v164) (ix4 0 h s d) = Spec.wvd (inpR V) h s d := by
  have e123 : ∀ t, L15 V (Proc.devRef .tc main_v123) (ix4 0 h t d) = pick (fun t => (inpR V).xv h t d) (fun t => Spec.vl (inpR V) h t d) t := fun t => by
    refine (congrFun ?_ _).trans (r123 V h t d)
    rw [L15_of V main_v123 (by decide), L14_of V main_v123 (by decide), L13_of V main_v123 (by decide), L12_of V main_v123 (by decide)]
  refine (o164 V h s d).trans ?_
  refine (congrArg₂ (fun (w v : Fin 2304 → EReal) => ∑ x, Ideal.div (w x) (∑ x, w x) * v x) (funext fun t => r159 V R W h s t) (funext e123)).trans ?_
  beta_reduce
  rw [sum_tM_tS, sum_tM_tS]
  simp only [pick_tM, pick_tS]
  exact Spec.soft_eq (by norm_num) _ _ _ _ (fun t => Spec.sm_isR R h s t) (fun t => Spec.ss_ne_top R h s t)
/-- The layer's result. -/
theorem e168 (s : Fin 2048) (e : Fin 1024) : L17 V (Proc.devRef .tc main_v168) (ix3 0 s e) = Spec.res (inpR V) s e := by
  refine (o168 V s e).trans (Finset.sum_congr (M := EReal) rfl fun x _ => ?_)
  refine congrArg₂ (fun a b : EReal => a * b) (congrArg₂ (fun a b : EReal => a * b) (r164 V R W _ s _) ?_) (congrFun (args_16 V main_arg14 (by decide)) _)
  refine (congrFun ?_ _).trans (r70 V s x)
  rw [L16_of V main_v70 (by decide), L15_of V main_v70 (by decide), L14_of V main_v70 (by decide), L13_of V main_v70 (by decide), L12_of V main_v70 (by decide),
    L11_of V main_v70 (by decide), L10_of V main_v70 (by decide), L9_of V main_v70 (by decide), L8_of V main_v70 (by decide), L7_of V main_v70 (by decide), L6_of V main_v70 (by decide)]

end Cert.ReferenceIdeal.Val
end
-- ==== Proof.Ties.lean ====
module

public import proofs.«01_k».proof.Defs
public import proofs.«01_k».proof.Proof.Dom
public import proofs.«01_k».proof.Proof.KEnd
public import proofs.«01_k».proof.Proof.RVal3
public import proofs.«01_k».proof.Proof.RVal5

@[expose] public section

/-! Both programs' results from arrays that agree. -/

set_option maxRecDepth 16384

noncomputable section

namespace Cert.Ties

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The arrays of the two programs agree on a device. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

/-- What the precondition says of the kernel program's arrays on a device. -/
abbrev SaysK [Cert.Pre_one_document.Facts] : Prop := Cert.Pre_one_document.Dom.Says (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))

/-- The reference's launch contents on a device. -/
abbrev VR : Valuation Cert.ReferenceIdeal.τ Cert.ReferenceIdeal.sig (Elt Ideal) := Idealize.ShloMosaic.StableHlo.launchContents m' c

/-- The arrays of the two programs, by coordinates, are the same. -/
theorem inp_eq (h : Agree m m' c) : Cert.ReferenceIdeal.Val.inpR (VR m' c) = Cert.KernelIdeal.Val.inpK m c := by
  obtain ⟨h0, h1, h2, h3, h4, h5, h6, h7, h8, h9, h10, h11, h12, h13, h14, h15, h16⟩ := h
  simp only [Cert.ReferenceIdeal.Val.inpR, Cert.KernelIdeal.Val.inpK, Spec.Inp.mk.injEq]
  exact ⟨funext fun s => funext fun d => congrFun h0 _, funext fun d => congrFun h8 _, funext fun d => congrFun h9 _,
    funext fun d => funext fun e => congrFun h10 _, funext fun d => funext fun e => congrFun h11 _, funext fun d => funext fun e => congrFun h12 _,
    funext fun d => funext fun e => congrFun h13 _, funext fun d => funext fun e => congrFun h14 _, funext fun d => funext fun e => congrFun h15 _,
    funext fun h => funext fun k => funext fun d => congrFun h16 _, funext fun h => funext fun t => funext fun d => congrFun h3 _,
    funext fun h => funext fun t => funext fun d => congrFun h4 _, funext fun s => congrFun h2 _⟩

variable [Cert.Pre_one_document.Facts]

theorem real_of (H : SaysK m c) : Spec.Real (Cert.KernelIdeal.Val.inpK m c) where
  x s d := H.f0 _
  g d := H.f8 _
  b d := H.f9 _
  wq d e := H.f10 _
  wk d e := H.f11 _
  xu h d := H.f15 _
  xk h t d := H.f3 _
  cb h k d := H.f16 _

theorem whole_of (h : Agree m m' c) (H : SaysK m c) : Cert.ReferenceIdeal.Val.Whole (VR m' c) := by
  obtain ⟨h0, h1, h2, h3, h4, h5, h6, h7, h8, h9, h10, h11, h12, h13, h14, h15, h16⟩ := h
  obtain ⟨p, hp, e⟩ := H.pos
  obtain ⟨D, d1, d6⟩ := H.doc
  exact ⟨⟨p, hp, (congrFun h7 _).trans (e _)⟩, ⟨D, fun s => (congrFun h1 _).trans (d1 _), fun t => (congrFun h6 _).trans (d6 _)⟩⟩

variable (ρ : Dev Cert.KernelIdeal.nD → PrngReg)

theorem res_eq (h : Agree m m' c) (H : SaysK m c) (s : Fin 2048) (e : Fin 1024) :
    Cert.ReferenceIdeal.Val.L17 (VR m' c) (Proc.devRef .tc Cert.ReferenceIdeal.main_v168) (ix3 0 s e) =
      Cert.KernelIdeal.Gen.W14 m ρ c (Proc.devRef .tc Cert.KernelIdeal.main_v38) (ix3 0 s e) := by
  have R : Spec.Real (Cert.ReferenceIdeal.Val.inpR (VR m' c)) := by rw [inp_eq m m' c h]; exact real_of m c H
  exact (Cert.ReferenceIdeal.Val.e168 _ R (whole_of m m' c h H) s e).trans ((congrArg (fun I => Spec.res I s e) (inp_eq m m' c h)).trans
    (Cert.KernelIdeal.Val.v38_eq m ρ c s e).symm)
theorem res_all (h : Agree m m' c) (H : SaysK m c) :
    (Cert.ReferenceIdeal.Val.L17 (VR m' c) (Proc.devRef .tc Cert.ReferenceIdeal.main_v168) : FVec Ideal ⟨3, ![1, 2048, 1024]⟩ .f32) =
      Cert.KernelIdeal.Gen.W14 m ρ c (Proc.devRef .tc Cert.KernelIdeal.main_v38) := by
  funext i
  have ei : i = ix3 0 (i 1) (i 2) := by
    have e0 : i 0 = (0 : Fin 1) := Subsingleton.elim (α := Fin 1) _ _
    exact (eq_ix3 i).trans (congrArg (fun a : Fin 1 => ix3 a (i 1) (i 2)) e0)
  rw [ei]
  exact res_eq m m' c ρ h H _ _
theorem loss1_all (h : Agree m m' c) (H : SaysK m c) :
    (Cert.ReferenceIdeal.Val.L17 (VR m' c) (Proc.devRef .tc Cert.ReferenceIdeal.main_v113) : FVec Ideal ⟨0, ![]⟩ .f32) =
      Cert.KernelIdeal.Gen.W14 m ρ c (Proc.devRef .tc Cert.KernelIdeal.main_v37) := by
  have R : Spec.Real (Cert.ReferenceIdeal.Val.inpR (VR m' c)) := by rw [inp_eq m m' c h]; exact real_of m c H
  funext i
  exact (Cert.ReferenceIdeal.Val.e113 _ R i).trans ((congrArg Spec.loss (inp_eq m m' c h)).trans (Cert.KernelIdeal.Val.v37_eq m ρ c i).symm)
theorem loss2_all (h : Agree m m' c) (H : SaysK m c) :
    (Cert.ReferenceIdeal.Val.L17 (VR m' c) (Proc.devRef .tc Cert.ReferenceIdeal.main_v119) : FVec Ideal ⟨0, ![]⟩ .f32) =
      Cert.KernelIdeal.Gen.W14 m ρ c (Proc.devRef .tc Cert.KernelIdeal.main_v37) := by
  have R : Spec.Real (Cert.ReferenceIdeal.Val.inpR (VR m' c)) := by rw [inp_eq m m' c h]; exact real_of m c H
  funext i
  exact (Cert.ReferenceIdeal.Val.e119 _ R i).trans ((congrArg Spec.loss (inp_eq m m' c h)).trans (Cert.KernelIdeal.Val.v37_eq m ρ c i).symm)

end Cert.Ties

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Ties
public import Idealize.ShloMosaic.Adequacy
public import Idealize.ShloMosaic.Init

@[expose] public section

set_option maxRecDepth 16384

noncomputable section

namespace Cert.Proof

open Idealize.ShloMosaic Idealize.SL.Sem

theorem frame_k : Cert.quiescent_Kernel (hKernel := Cert.Kernel.Gen.facts) := fun m g _ => Cert.Kernel.Gen.frame m g

theorem frame_ki : Cert.quiescent_KernelIdeal (hKernelIdeal := Cert.KernelIdeal.Gen.facts) := fun m g _ => Cert.KernelIdeal.Gen.frame m g

theorem frame_ki_pre : Cert.quiescent_KernelIdeal_pre_one_document (hKernelIdeal := Cert.KernelIdeal.Gen.facts) (hPre_one_document := Cert.Pre_one_document.Dom.facts) :=
  fun m g _ => Cert.KernelIdeal.Gen.frame m g

theorem frame_ri : Cert.quiescent_ReferenceIdeal (hReferenceIdeal := Cert.ReferenceIdeal.Gen.facts) := fun m g _ =>
  (θ_run _ _ _).mono (fun r h => ⟨fun c => (h c).2.2.2, sem_eq_zero_of_no_sems rfl r.2⟩) (Cert.ReferenceIdeal.Val.run (F := Ideal) m g)

theorem frame_ri_pre : Cert.quiescent_ReferenceIdeal_pre_one_document (hReferenceIdeal := Cert.ReferenceIdeal.Gen.facts)
    (hPre_one_document := Cert.Pre_one_document.Dom.facts) :=
  fun m g _ => frame_ri m g trivial

theorem mask : Cert.preserves_Kernel_KernelIdeal := IdealRules.named_const.statement Cert.KernelIdeal.κ "mask" .f32 0xF149F2CA#32 ⊥ rfl

theorem alg : Cert.algebraic_KernelIdeal_ReferenceIdeal_pre_one_document (hKernelIdeal := Cert.KernelIdeal.Gen.facts)
    (hReferenceIdeal := Cert.ReferenceIdeal.Gen.facts) (hPre_one_document := Cert.Pre_one_document.Dom.facts) := by
  intro m g m' g' hp ha
  letI := Cert.Pre_one_document.Dom.facts
  have H : ∀ c, Cert.Ties.SaysK m c := fun c => Cert.Pre_one_document.Dom.all_of _ _ _ _ _ _ _ _ _ _ _ _ _ _ _ _ _ (hp c)
  refine ⟨fun c => Cert.KernelIdeal.Gen.W14 m g c (Proc.devRef .tc Cert.KernelIdeal.main_v38), fun c => Cert.KernelIdeal.Gen.W14 m g c (Proc.devRef .tc Cert.KernelIdeal.main_v37),
    fun c => Cert.KernelIdeal.Gen.W14 m g c (Proc.devRef .tc Cert.KernelIdeal.main_v37), ?_, ?_⟩
  · exact (θ_run _ _ _).mono (fun r h c => ⟨(h c).1, (h c).2.1, (h c).2.1, (h c).2.2⟩) (Cert.KernelIdeal.Val.run (F := Ideal) m g)
  · exact (θ_run _ _ _).mono (fun r h c => ⟨(h c).1.trans (Cert.Ties.res_all m m' c g (ha c) (H c)), (h c).2.1.trans (Cert.Ties.loss1_all m m' c g (ha c) (H c)),
      (h c).2.2.1.trans (Cert.Ties.loss2_all m m' c g (ha c) (H c)), (h c).2.2.2⟩) (Cert.ReferenceIdeal.Val.run (F := Ideal) m' g')

theorem claim : Cert.Claim :=
  ⟨Cert.Kernel.Gen.facts, Cert.KernelIdeal.Gen.facts, Cert.ReferenceIdeal.Gen.facts, Cert.Pre_one_document.Dom.facts,
    frame_k, frame_ki, frame_ki_pre, frame_ri, frame_ri_pre, mask, alg⟩

end Cert.Proof

end
